-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![16384, 1024]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1x1024 : Shape := ⟨2, ![1, 1024]⟩
abbrev S4x512x1024 : Shape := ⟨3, ![4, 512, 1024]⟩
abbrev S4x1x1024 : Shape := ⟨3, ![4, 1, 1024]⟩
abbrev S4 : Shape := ⟨1, ![4]⟩
abbrev S3 : Shape := ⟨1, ![3]⟩
abbrev S_ : Shape := ⟨0, ![]⟩
abbrev S1 : Shape := ⟨1, ![1]⟩
abbrev S1x512x1024 : Shape := ⟨3, ![1, 512, 1024]⟩
abbrev S512x1024 : Shape := ⟨2, ![512, 1024]⟩
abbrev S1024 : Shape := ⟨1, ![1024]⟩
abbrev S1x1x1024 : Shape := ⟨3, ![1, 1, 1024]⟩

abbrev nBuf : Space → Nat
  | .hbm => 2
  | .vmem => 3
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .local _ .vmem, ⟨0, _⟩ => ⟨S4x512x1024, .f32⟩
  | .local _ .vmem, ⟨1, _⟩ => ⟨S4x1x1024, .f32⟩
  | .local _ .vmem, ⟨2, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 1 11 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_23 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_14 : BitVec 32 := 1#32
  let v19 : BitVec 32 := Scalar.addi v2 c1_i32_14
  let c4_i32_15 : BitVec 32 := 4#32
  let c0_i32_16 : BitVec 32 := 0#32
  let v20 : BitVec 1 := Scalar.cmpi .eq c4_i32_15 c0_i32_16
  let c1_i32_17 : BitVec 32 := 1#32
  let v21 : BitVec 32 := Scalar.select v20 c1_i32_17 c4_i32_15
  let v22 : BitVec 32 := Scalar.remsi v19 v21
  let c0_i32_19 : BitVec 32 := 0#32
  let v24 : BitVec 1 := Scalar.cmpi .slt v22 c0_i32_19
  let c0_i32_20 : BitVec 32 := 0#32
  let v25 : BitVec 1 := Scalar.cmpi .slt v21 c0_i32_20
  let v26 : BitVec 1 := Scalar.xori v24 v25
  let c0_i32_18 : BitVec 32 := 0#32
  let v23 : BitVec 1 := Scalar.cmpi .ne v22 c0_i32_18
  let v27 : BitVec 1 := Scalar.andi v26 v23
  let v28 : BitVec 32 := Scalar.addi v22 v21
  let v29 : BitVec 32 := Scalar.select v27 v28 v22
  let c1_i32_22 : BitVec 32 := 1#32
  let v30 : BitVec 32 := Scalar.muli v29 c1_i32_22
  let v31 : BitVec 32 := Scalar.addi c0_i32_23 v30
  v31.toNat
def k0_dev2 (d0 : Dev nD) : Nat :=
  let c0_i32_33 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_24 : BitVec 32 := 2#32
  let v32 : BitVec 32 := Scalar.addi v2 c2_i32_24
  let c4_i32_25 : BitVec 32 := 4#32
  let c0_i32_26 : BitVec 32 := 0#32
  let v33 : BitVec 1 := Scalar.cmpi .eq c4_i32_25 c0_i32_26
  let c1_i32_27 : BitVec 32 := 1#32
  let v34 : BitVec 32 := Scalar.select v33 c1_i32_27 c4_i32_25
  let v35 : BitVec 32 := Scalar.remsi v32 v34
  let c0_i32_29 : BitVec 32 := 0#32
  let v37 : BitVec 1 := Scalar.cmpi .slt v35 c0_i32_29
  let c0_i32_30 : BitVec 32 := 0#32
  let v38 : BitVec 1 := Scalar.cmpi .slt v34 c0_i32_30
  let v39 : BitVec 1 := Scalar.xori v37 v38
  let c0_i32_28 : BitVec 32 := 0#32
  let v36 : BitVec 1 := Scalar.cmpi .ne v35 c0_i32_28
  let v40 : BitVec 1 := Scalar.andi v39 v36
  let v41 : BitVec 32 := Scalar.addi v35 v34
  let v42 : BitVec 32 := Scalar.select v40 v41 v35
  let c1_i32_32 : BitVec 32 := 1#32
  let v43 : BitVec 32 := Scalar.muli v42 c1_i32_32
  let v44 : BitVec 32 := Scalar.addi c0_i32_33 v43
  v44.toNat
def k0_dev3 (d0 : Dev nD) : Nat :=
  let c0_i32_42 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v45 : BitVec 32 := Scalar.addi v2 c3_i32
  let c4_i32_34 : BitVec 32 := 4#32
  let c0_i32_35 : BitVec 32 := 0#32
  let v46 : BitVec 1 := Scalar.cmpi .eq c4_i32_34 c0_i32_35
  let c1_i32_36 : BitVec 32 := 1#32
  let v47 : BitVec 32 := Scalar.select v46 c1_i32_36 c4_i32_34
  let v48 : BitVec 32 := Scalar.remsi v45 v47
  let c0_i32_38 : BitVec 32 := 0#32
  let v50 : BitVec 1 := Scalar.cmpi .slt v48 c0_i32_38
  let c0_i32_39 : BitVec 32 := 0#32
  let v51 : BitVec 1 := Scalar.cmpi .slt v47 c0_i32_39
  let v52 : BitVec 1 := Scalar.xori v50 v51
  let c0_i32_37 : BitVec 32 := 0#32
  let v49 : BitVec 1 := Scalar.cmpi .ne v48 c0_i32_37
  let v53 : BitVec 1 := Scalar.andi v52 v49
  let v54 : BitVec 32 := Scalar.addi v48 v47
  let v55 : BitVec 32 := Scalar.select v53 v54 v48
  let c1_i32_41 : BitVec 32 := 1#32
  let v56 : BitVec 32 := Scalar.muli v55 c1_i32_41
  let v57 : BitVec 32 := Scalar.addi c0_i32_42 v56
  v57.toNat
def k0_dev4 (d0 : Dev nD) : Nat :=
  let c0_i32_159 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_147 : BitVec 32 := 1#32
  let v165 : BitVec 32 := Scalar.addi v2 c1_i32_147
  let c4_i32_148 : BitVec 32 := 4#32
  let c0_i32_149 : BitVec 32 := 0#32
  let v166 : BitVec 1 := Scalar.cmpi .eq c4_i32_148 c0_i32_149
  let c1_i32_150 : BitVec 32 := 1#32
  let v167 : BitVec 32 := Scalar.select v166 c1_i32_150 c4_i32_148
  let v168 : BitVec 32 := Scalar.remsi v165 v167
  let c0_i32_152 : BitVec 32 := 0#32
  let v170 : BitVec 1 := Scalar.cmpi .slt v168 c0_i32_152
  let c0_i32_153 : BitVec 32 := 0#32
  let v171 : BitVec 1 := Scalar.cmpi .slt v167 c0_i32_153
  let v172 : BitVec 1 := Scalar.xori v170 v171
  let c0_i32_151 : BitVec 32 := 0#32
  let v169 : BitVec 1 := Scalar.cmpi .ne v168 c0_i32_151
  let v173 : BitVec 1 := Scalar.andi v172 v169
  let v174 : BitVec 32 := Scalar.addi v168 v167
  let v175 : BitVec 32 := Scalar.select v173 v174 v168
  let c1_i32_158 : BitVec 32 := 1#32
  let v176 : BitVec 32 := Scalar.muli v175 c1_i32_158
  let v177 : BitVec 32 := Scalar.addi c0_i32_159 v176
  v177.toNat
def k0_dev5 (d0 : Dev nD) : Nat :=
  let c0_i32_176 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_164 : BitVec 32 := 2#32
  let v186 : BitVec 32 := Scalar.addi v2 c2_i32_164
  let c4_i32_165 : BitVec 32 := 4#32
  let c0_i32_166 : BitVec 32 := 0#32
  let v187 : BitVec 1 := Scalar.cmpi .eq c4_i32_165 c0_i32_166
  let c1_i32_167 : BitVec 32 := 1#32
  let v188 : BitVec 32 := Scalar.select v187 c1_i32_167 c4_i32_165
  let v189 : BitVec 32 := Scalar.remsi v186 v188
  let c0_i32_169 : BitVec 32 := 0#32
  let v191 : BitVec 1 := Scalar.cmpi .slt v189 c0_i32_169
  let c0_i32_170 : BitVec 32 := 0#32
  let v192 : BitVec 1 := Scalar.cmpi .slt v188 c0_i32_170
  let v193 : BitVec 1 := Scalar.xori v191 v192
  let c0_i32_168 : BitVec 32 := 0#32
  let v190 : BitVec 1 := Scalar.cmpi .ne v189 c0_i32_168
  let v194 : BitVec 1 := Scalar.andi v193 v190
  let v195 : BitVec 32 := Scalar.addi v189 v188
  let v196 : BitVec 32 := Scalar.select v194 v195 v189
  let c1_i32_175 : BitVec 32 := 1#32
  let v197 : BitVec 32 := Scalar.muli v196 c1_i32_175
  let v198 : BitVec 32 := Scalar.addi c0_i32_176 v197
  v198.toNat
def k0_dev6 (d0 : Dev nD) : Nat :=
  let c0_i32_193 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_181 : BitVec 32 := 3#32
  let v207 : BitVec 32 := Scalar.addi v2 c3_i32_181
  let c4_i32_182 : BitVec 32 := 4#32
  let c0_i32_183 : BitVec 32 := 0#32
  let v208 : BitVec 1 := Scalar.cmpi .eq c4_i32_182 c0_i32_183
  let c1_i32_184 : BitVec 32 := 1#32
  let v209 : BitVec 32 := Scalar.select v208 c1_i32_184 c4_i32_182
  let v210 : BitVec 32 := Scalar.remsi v207 v209
  let c0_i32_186 : BitVec 32 := 0#32
  let v212 : BitVec 1 := Scalar.cmpi .slt v210 c0_i32_186
  let c0_i32_187 : BitVec 32 := 0#32
  let v213 : BitVec 1 := Scalar.cmpi .slt v209 c0_i32_187
  let v214 : BitVec 1 := Scalar.xori v212 v213
  let c0_i32_185 : BitVec 32 := 0#32
  let v211 : BitVec 1 := Scalar.cmpi .ne v210 c0_i32_185
  let v215 : BitVec 1 := Scalar.andi v214 v211
  let v216 : BitVec 32 := Scalar.addi v210 v209
  let v217 : BitVec 32 := Scalar.select v215 v216 v210
  let c1_i32_192 : BitVec 32 := 1#32
  let v218 : BitVec 32 := Scalar.muli v217 c1_i32_192
  let v219 : BitVec 32 := Scalar.addi c0_i32_193 v218
  v219.toNat
-- ==== ReferenceIdeal.lean ====
abbrev S16384x1024 : Shape := ⟨2, ![16384, 1024]⟩
abbrev S_ : Shape := ⟨0, ![]⟩
abbrev S1024 : Shape := ⟨1, ![1024]⟩
abbrev S1x1024 : Shape := ⟨2, ![1, 1024]⟩

abbrev nBuf : Space → Nat
  | .hbm => 4
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S_, .f32⟩
  | .hbm, ⟨2, _⟩ => ⟨S1024, .f32⟩
  | .hbm, ⟨3, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Memory.lean ====
/-
  The kernel's buffers and semaphores, and what its copies leave in them.

  Each device holds a block of 4096 rows of 1024 numbers. It brings the block into fast memory 512 rows at a time, through
  a buffer of four slots, and adds the rows up. The row it gets it keeps in the last slot of a second buffer of four slots;
  the first three slots of that buffer are where the other three devices leave theirs.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.ValueLayout
public import Idealize.ShloMosaic.Lib.Ring
public import Idealize.ShloMosaic.Lib.Tactic

@[expose] public section

noncomputable section

namespace Cert.SumProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Buffers -/

/-- The block of the argument, the result, the slots the rows are brought into, the slots of partial sums, the staged result. -/
abbrev xM : Memref sig .tc .hbm S4096x1024 .f32 := Memref.whole main_arg0
abbrev oM : Memref sig .tc .hbm S1x1024 .f32 := Memref.whole main_v1
abbrev bM : Memref sig .tc .vmem S4x512x1024 .f32 := Memref.whole cc0_scratch0
abbrev sM : Memref sig .tc .vmem S4x1x1024 .f32 := Memref.whole cc0_scratch1
abbrev vM : Memref sig .tc .vmem S1x1024 .f32 := Memref.whole cc0_scratch2

theorem inbRows (j : Fin 8) : ∀ a, (![512 * j.val, 0] : Fin 2 → ℕ) a + S512x1024.size a ≤ S4096x1024.size a := by revert j; decide
theorem inbBuf (k : Fin 4) : ∀ a, (![k.val, 0, 0] : Fin 3 → ℕ) a + S1x512x1024.size a ≤ S4x512x1024.size a := by revert k; decide
theorem inbSum (k : Fin 4) : ∀ a, (![k.val, 0, 0] : Fin 3 → ℕ) a + S1x1x1024.size a ≤ S4x1x1024.size a := by revert k; decide

/-- Rows `512 j` to `512 j + 511` of the block. -/
abbrev rowsM (j : Fin 8) : Memref sig .tc .hbm S512x1024 .f32 :=
  xM.slice (Rect.unit (s := S4096x1024) ![512 * j.val, 0] S512x1024.size (inbRows j)) (fun _ => rfl)
abbrev bufRect (k : Fin 4) : Rect S4x512x1024 := Rect.unit (s := S4x512x1024) ![k.val, 0, 0] S1x512x1024.size (inbBuf k)
abbrev sumRect (k : Fin 4) : Rect S4x1x1024 := Rect.unit (s := S4x1x1024) ![k.val, 0, 0] S1x1x1024.size (inbSum k)
/-- Slot `k` of the buffer the rows are brought into. -/
abbrev bufM (k : Fin 4) : Memref sig .tc .vmem S512x1024 .f32 := (bM.slice (bufRect k) (fun _ => rfl)).squeeze S512x1024 squeezes_S1x512x1024_S512x1024
/-- Slot `k` of the buffer of partial sums. -/
abbrev sumM (k : Fin 4) : Memref sig .tc .vmem S1x1024 .f32 := (sM.slice (sumRect k) (fun _ => rfl)).squeeze S1x1024 squeezes_S1x1x1024_S1x1024

theorem bufM_set (k : Fin 4) : (bufM k).view.set = (bufRect k).set := (View.set_reshape _ _).trans (View.set_slice_whole _ _)
theorem sumM_set (k : Fin 4) : (sumM k).view.set = (sumRect k).set := (View.set_reshape _ _).trans (View.set_slice_whole _ _)

/-! ## Semaphores -/

theorem inb4 (k : Fin 4) : ∀ a, (![k.val] : Fin 1 → ℕ) a + S1.size a ≤ S4.size a := by revert k; decide
theorem inb3 (k : Fin 3) : ∀ a, (![k.val] : Fin 1 → ℕ) a + S1.size a ≤ S3.size a := by revert k; decide

abbrev copyS (k : Fin 4) : DmaSem sig := ((cc0_scratch3.slice (Rect.unit (s := S4) ![k.val] S1.size (inb4 k))).squeeze S_ squeezes_S1_S_).sem
abbrev sendS (k : Fin 3) : DmaSem sig := ((cc0_scratch4.slice (Rect.unit (s := S3) ![k.val] S1.size (inb3 k))).squeeze S_ squeezes_S1_S_).sem
abbrev recvS (k : Fin 3) : DmaSem sig := ((cc0_scratch5.slice (Rect.unit (s := S3) ![k.val] S1.size (inb3 k))).squeeze S_ squeezes_S1_S_).sem
abbrev outS : DmaSem sig := cc0_scratch6.sem
abbrev barS : Sem sig := (SemArray.scalar (sig.barrier 0 rfl) : Sems sig S_).sem

/-- What a copy of 512 rows, and what a copy of one row, adds to the semaphore it completes on. -/
abbrev NC : ℕ := (bufM 0).view.dmaCredit
abbrev N : ℕ := (sumM 0).view.dmaCredit
theorem NC_pos : 0 < NC := View.dmaCredit_pos _ (by decide)
theorem N_pos : 0 < N := View.dmaCredit_pos _ (by decide)

/-! ## Where a slot's elements lie -/

theorem bufM_emb (k : Fin 4) (a : Fin 512) (b : Fin 1024) : (bufM k).view.emb (ValueIdx.ix2 a b) = (ValueIdx.ix3 k a b : S4x512x1024.Idx) := by
  show (bufRect k).idx (Shape.reshapeEquiv _ (ValueIdx.ix2 a b)) = _
  rw [ValueIdx.reshapeEquiv_ix2_1ab]
  funext d
  apply Fin.ext
  match d with
  | ⟨0, _⟩ => show k.val + 1 * 0 = k.val; omega
  | ⟨1, _⟩ => show 0 + 1 * a.val = a.val; omega
  | ⟨2, _⟩ => show 0 + 1 * b.val = b.val; omega

theorem sumM_emb (k : Fin 4) (a : Fin 1) (b : Fin 1024) : (sumM k).view.emb (ValueIdx.ix2 a b) = (ValueIdx.ix3 k a b : S4x1x1024.Idx) := by
  show (sumRect k).idx (Shape.reshapeEquiv _ (ValueIdx.ix2 a b)) = _
  rw [ValueIdx.reshapeEquiv_ix2_1ab]
  funext d
  apply Fin.ext
  match d with
  | ⟨0, _⟩ => show k.val + 1 * 0 = k.val; omega
  | ⟨1, _⟩ => show 0 + 1 * a.val = a.val; omega
  | ⟨2, _⟩ => show 0 + 1 * b.val = b.val; omega

/-! ## Contents -/

/-- Row `a` of the 512 rows brought by copy `j`, as a row of the block. -/
def rowIx (j : Fin 8) (a : Fin 512) : Fin 4096 := ⟨512 * j.val + a.val, by omega⟩

theorem rowsM_emb (j : Fin 8) (a : Fin 512) (b : Fin 1024) : (rowsM j).view.emb (ValueIdx.ix2 a b) = (ValueIdx.ix2 (rowIx j a) b : S4096x1024.Idx) := by
  funext d
  apply Fin.ext
  match d with
  | ⟨0, _⟩ => show 512 * j.val + 1 * a.val = 512 * j.val + a.val; omega
  | ⟨1, _⟩ => show 0 + 1 * b.val = b.val; omega

/-- Rows `512 j …` of a block, as a slot is read. -/
def chunk (x : S4096x1024.Idx → Elt F .f32) (j : Fin 8) : Vec F S1x512x1024 .f32 := fun i => x (ValueIdx.ix2 (rowIx j (i 1)) (i 2))

/-- Contents of the slots whose every slot reads `w`. -/
def bufOf (w : Vec F S1x512x1024 .f32) : S4x512x1024.Idx → Elt F .f32 := fun i => w (ValueIdx.ix3 (0 : Fin 1) (i 1 : Fin 512) (i 2 : Fin 1024))
def sumOf (w : Vec F S1x1x1024 .f32) : S4x1x1024.Idx → Elt F .f32 := fun i => w (ValueIdx.ix3 (0 : Fin 1) (i 1 : Fin 1) (i 2 : Fin 1024))

/-- Rows landed in a slot read as those rows. -/
theorem landed_buf (k : Fin 4) (j : Fin 8) (x : S4096x1024.Idx → Elt F .f32) (fd : S4x512x1024.Idx → Elt F .f32) :
    ∀ i ∈ (bufM k).view.set, (bufM k).view.write (Elt F) fd ((rowsM j).view.read (Elt F) x) Finset.univ i = bufOf (chunk x j) i := by
  intro i hi
  obtain ⟨y, -, rfl⟩ := Finset.mem_map.1 hi
  obtain ⟨a, b, rfl⟩ : ∃ (a : Fin 512) (b : Fin 1024), y = ValueIdx.ix2 a b := ⟨y 0, y 1, ValueIdx.eq_ix2 y⟩
  rw [View.write_emb_of_mem _ _ (Finset.mem_univ _)]
  show x ((rowsM j).view.emb (ValueIdx.ix2 a b)) = bufOf (chunk x j) ((bufM k).view.emb (ValueIdx.ix2 a b))
  rw [bufM_emb, rowsM_emb]
  rfl

/-- A partial sum landed in a slot reads as that sum. -/
theorem landed_sum (k k' : Fin 4) (w : Vec F S1x1x1024 .f32) (fd : S4x1x1024.Idx → Elt F .f32) :
    ∀ i ∈ (sumM k).view.set, (sumM k).view.write (Elt F) fd ((sumM k').view.read (Elt F) (sumOf w)) Finset.univ i = sumOf w i := by
  intro i hi
  obtain ⟨y, -, rfl⟩ := Finset.mem_map.1 hi
  obtain ⟨a, b, rfl⟩ : ∃ (a : Fin 1) (b : Fin 1024), y = ValueIdx.ix2 a b := ⟨y 0, y 1, ValueIdx.eq_ix2 y⟩
  rw [View.write_emb_of_mem _ _ (Finset.mem_univ _)]
  show sumOf w ((sumM k').view.emb (ValueIdx.ix2 a b)) = sumOf w ((sumM k).view.emb (ValueIdx.ix2 a b))
  rw [sumM_emb, sumM_emb]
  rfl

/-- A sum stored in a slot reads as that sum. -/
theorem stored_sum (k : Fin 4) (w : Vec F S1x1x1024 .f32) (f : S4x1x1024.Idx → Elt F .f32) :
    ∀ i ∈ (sumM k).view.set, (sM.access (sumRect k)).write (Elt F) f w Finset.univ i = sumOf w i := by
  intro i hi
  have hi' : i ∈ (sM.access (sumRect k)).set := by
    show i ∈ ((View.whole cc0_scratch1).slice (sumRect k)).set
    rw [View.set_slice_whole, ← sumM_set]; exact hi
  obtain ⟨y, -, rfl⟩ := Finset.mem_map.1 hi'
  rw [View.write_emb_of_mem _ _ (Finset.mem_univ y), ValueIdx.eq_ix3 y]
  show w _ = w _
  congr 1
  funext d
  apply Fin.ext
  match d with
  | ⟨0, _⟩ => have := (y 0).isLt; show (y 0).val = 0; change (y 0).val < 1 at this; omega
  | ⟨1, _⟩ => show (y 1).val = 0 + 1 * (y 1).val; omega
  | ⟨2, _⟩ => show (y 2).val = 0 + 1 * (y 2).val; omega

theorem load_buf (k : Fin 4) (w : Vec F S1x512x1024 .f32) : bM.view.readAt (Elt F) (bufRect k).toLoadRect (bufOf w) = w := by
  funext y
  rw [ValueIdx.eq_ix3 y]
  show w _ = w _
  congr 1
  funext d
  apply Fin.ext
  match d with
  | ⟨0, _⟩ => have := (y 0).isLt; show 0 = (y 0).val; change (y 0).val < 1 at this; omega
  | ⟨1, _⟩ => show 0 + 1 * (y 1).val = (y 1).val; omega
  | ⟨2, _⟩ => show 0 + 1 * (y 2).val = (y 2).val; omega

theorem load_sum (k : Fin 4) (w : Vec F S1x1x1024 .f32) : sM.view.readAt (Elt F) (sumRect k).toLoadRect (sumOf w) = w := by
  funext y
  rw [ValueIdx.eq_ix3 y]
  show w _ = w _
  congr 1
  funext d
  apply Fin.ext
  match d with
  | ⟨0, _⟩ => have := (y 0).isLt; show 0 = (y 0).val; change (y 0).val < 1 at this; omega
  | ⟨1, _⟩ => show 0 + 1 * (y 1).val = (y 1).val; omega
  | ⟨2, _⟩ => show 0 + 1 * (y 2).val = (y 2).val; omega

/-! ## The slots of a buffer: apart from each other, and together the whole of it -/

theorem bufM_disjoint (k k' : Fin 4) (h : k ≠ k') : Disjoint (bufM k).view.set (bufM k').view.set := by
  rw [bufM_set, bufM_set]
  exact Rect.unit_disjoint 0 (by rcases lt_or_gt_of_ne (Fin.val_ne_of_ne h) with h | h; · left; show k.val + 1 ≤ k'.val; omega
                                 · right; show k'.val + 1 ≤ k.val; omega)

theorem sumM_disjoint (k k' : Fin 4) (h : k ≠ k') : Disjoint (sumM k).view.set (sumM k').view.set := by
  rw [sumM_set, sumM_set]
  exact Rect.unit_disjoint 0 (by rcases lt_or_gt_of_ne (Fin.val_ne_of_ne h) with h | h; · left; show k.val + 1 ≤ k'.val; omega
                                 · right; show k'.val + 1 ≤ k.val; omega)

theorem bufM_cover : Finset.biUnion (β := S4x512x1024.Idx) Finset.univ (fun k : Fin 4 => (bufM k).view.set) = Finset.univ := by
  refine Finset.eq_univ_of_forall fun i => ?_
  obtain ⟨k, hk⟩ : ∃ k : Fin 4, k = i 0 := ⟨i 0, rfl⟩
  refine Finset.mem_biUnion.2 ⟨k, Finset.mem_univ _, ?_⟩
  rw [bufM_set]
  subst hk
  refine Rect.mem_set_unit.2 fun a => ?_
  have ha := (i a).isLt
  match a with
  | ⟨0, _⟩ => exact ⟨le_rfl, Nat.lt_succ_self _⟩
  | ⟨1, _⟩ => exact ⟨Nat.zero_le _, ha.trans_eq (Nat.zero_add _).symm⟩
  | ⟨2, _⟩ => exact ⟨Nat.zero_le _, ha.trans_eq (Nat.zero_add _).symm⟩

theorem sumM_cover : Finset.biUnion (β := S4x1x1024.Idx) Finset.univ (fun k : Fin 4 => (sumM k).view.set) = Finset.univ := by
  refine Finset.eq_univ_of_forall fun i => ?_
  obtain ⟨k, hk⟩ : ∃ k : Fin 4, k = i 0 := ⟨i 0, rfl⟩
  refine Finset.mem_biUnion.2 ⟨k, Finset.mem_univ _, ?_⟩
  rw [sumM_set]
  subst hk
  refine Rect.mem_set_unit.2 fun a => ?_
  have ha := (i a).isLt
  match a with
  | ⟨0, _⟩ => exact ⟨le_rfl, Nat.lt_succ_self _⟩
  | ⟨1, _⟩ => exact ⟨Nat.zero_le _, ha.trans_eq (Nat.zero_add _).symm⟩
  | ⟨2, _⟩ => exact ⟨Nat.zero_le _, ha.trans_eq (Nat.zero_add _).symm⟩

end Cert.SumProof

end
-- ==== Proof.Protocol.lean ====
/-
  How the four devices keep out of each other's way.

  A device first tells the other three that it has entered, by a unit on the barrier semaphore of each. With the unit
  goes the slot that the device told will write later on. A device therefore holds the three slots it writes once it has
  collected three units. It then sends its sum three times, once into each slot. Each sending completes on a semaphore of
  its own at either end: at the sender it gives back the share of the sum that was read, at the receiver it gives the
  slot, holding the sum sent.
-/
module

public import proofs.«01_k».proof.Proof.Memory

@[expose] public section

noncomputable section

namespace Cert.SumProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ghost state: the launch's, the barrier's and the sendings' rounds, the local copies' counters -/

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

variable (m : (ℓ : Loc nD τ sig) → Buf (Elt F) ℓ)

/-! ## Who tells and sends to whom -/

/-- The device `k + 1` places on; `k` runs over the three other devices. -/
def fwd (k : Fin 3) (c : Dev nD) : Dev nD := ⟨(c.val + (k.val + 1)) % 4, Nat.mod_lt _ (by decide)⟩

/-- `k + 1` places on and `3 - k` places on make a full turn. -/
theorem fwd_rev (k : Fin 3) (c : Dev nD) : fwd k.rev (fwd k c) = c := by revert k c; decide
theorem fwd_rev' (k : Fin 3) (c : Dev nD) : fwd k (fwd k.rev c) = c := by revert k c; decide

def turn (k : Fin 3) : Dev nD ≃ Dev nD := ⟨fwd k, fwd k.rev, fwd_rev k, fwd_rev' k⟩

theorem dev1_eq (c : Dev nD) : (⟨k0_dev1 c, k0_dev1_lt c⟩ : Dev nD) = fwd 0 c := by revert c; decide +kernel
theorem dev2_eq (c : Dev nD) : (⟨k0_dev2 c, k0_dev2_lt c⟩ : Dev nD) = fwd 1 c := by revert c; decide +kernel
theorem dev3_eq (c : Dev nD) : (⟨k0_dev3 c, k0_dev3_lt c⟩ : Dev nD) = fwd 2 c := by revert c; decide +kernel
theorem dev4_eq (c : Dev nD) : (⟨k0_dev4 c, k0_dev4_lt c⟩ : Dev nD) = fwd 0 c := by revert c; decide +kernel
theorem dev5_eq (c : Dev nD) : (⟨k0_dev5 c, k0_dev5_lt c⟩ : Dev nD) = fwd 1 c := by revert c; decide +kernel
theorem dev6_eq (c : Dev nD) : (⟨k0_dev6 c, k0_dev6_lt c⟩ : Dev nD) = fwd 2 c := by revert c; decide +kernel

/-! ## The semaphores the devices share: the barrier's (`none`), sending `k`'s at the sender (`false`) and at the receiver (`true`) -/

abbrev CellIx : Type := Option (Bool × Fin 3)

abbrev csem : CellIx → SemLoc sig
  | none => .reg barS
  | some (false, k) => .dma (sendS k)
  | some (true, k) => .dma (recvS k)

abbrev kcell (ck : Dev nD × CellIx) : GSem nD τ sig := ((ck.1 : Thread nD τ), csem ck.2)
abbrev barCell (c : Dev nD) : GSem nD τ sig := kcell (c, none)
abbrev sendCell (c : Dev nD) (k : Fin 3) : GSem nD τ sig := kcell (c, some (false, k))
abbrev recvCell (c : Dev nD) (k : Fin 3) : GSem nD τ sig := kcell (c, some (true, k))

def allIx : List CellIx := [none, some (false, 0), some (false, 1), some (false, 2), some (true, 0), some (true, 1), some (true, 2)]

/-- Which of them a semaphore is, if any. -/
def findIx (s : SemLoc sig) : Option CellIx := allIx.find? fun k => csem k = s

theorem findIx_csem (k : CellIx) : findIx (csem k) = some k := by revert k; decide
theorem findIx_copy (k : Fin 4) : findIx (.dma (copyS k)) = none := by revert k; decide
theorem findIx_out : findIx (.dma outS) = none := by decide

theorem csem_injective : Function.Injective csem := fun a b h => Option.some.inj ((findIx_csem a).symm.trans ((congrArg findIx h).trans (findIx_csem b)))

/-! ## What a device computes -/

/-- The block device `c` holds. -/
abbrev xOf (c : Dev nD) : S4096x1024.Idx → Elt F .f32 := m ((c : Thread nD τ).loc main_arg0)

/-- The sum over the first five parts of a block, over all eight, and that as the slot holds it. -/
def sum5 (x : S4096x1024.Idx → Elt F .f32) : FVec F S1x1024 .f32 :=
  k0_pay4 (k0_pay3 (k0_pay1 (chunk x 0)) (k0_pay2 (chunk x 1)) (chunk x 2)) (chunk x 3) (chunk x 4)
def sum8 (x : S4096x1024.Idx → Elt F .f32) : FVec F S1x1024 .f32 := k0_pay6 (sum5 x) (k0_pay5 (chunk x 5)) (chunk x 6) (chunk x 7)
def part (x : S4096x1024.Idx → Elt F .f32) : FVec F S1x1x1024 .f32 := k0_pay7 (sum5 x) (k0_pay5 (chunk x 5)) (chunk x 6) (chunk x 7)

/-- The result on device `c`: its own sum, then those of the devices one, three and two places back, in that order. -/
def resOf (c : Dev nD) : FVec F S1x1024 .f32 :=
  k0_pay9 (k0_pay8 (sum8 (xOf m c)) (part (xOf m (fwd 2 c)))) (part (xOf m (fwd 0 c))) (part (xOf m (fwd 1 c)))

/-! ## Slots held -/

/-- Slot `k` of partial sums of device `c`: holding `w`, at share `q`; at whatever contents. -/
def sumPts (c : Dev nD) (k : Fin 4) (q : PosShare TreeShare) (w : Vec F S1x1x1024 .f32) : sProp 𝕄 :=
  (sumM k).view.loc (c : Thread nD τ) ↦[(sumM k).view.set]{q} (sumOf w)
def sumFree (c : Dev nD) (k : Fin 4) : sProp 𝕄 :=
  iprop(∃ f : Buf (Elt F) ((sumM k).view.loc (c : Thread nD τ)), (sumM k).view.loc (c : Thread nD τ) ↦[(sumM k).view.set]{fullShare} f)

instance sumPts_storable (c : Dev nD) (k : Fin 4) (q) (w) : BI.Storable (upEmb : UEmb _ 𝕄) (sumPts (F := F) c k q w) := by unfold sumPts; infer_instance
instance sumFree_storable (c : Dev nD) (k : Fin 4) : BI.Storable (upEmb : UEmb _ 𝕄) (sumFree (F := F) c k) := by unfold sumFree; infer_instance

/-! ## The schedule -/

/-- With the unit of the device `d + 1` places back comes the slot there that this device writes. -/
def barPay (c : Dev nD) (d : Fin 3) : sProp 𝕄 :=
  iprop(sumFree (fwd d.rev c) d.rev.castSucc ∗ reached ER (recvCell (fwd d.rev c) d.rev) 0)
/-- Sending `k` gives the sender back its share of the sum, and the receiver the sum of the device `k + 1` places back. -/
def sendPay (c : Dev nD) (k : Fin 3) : sProp 𝕄 := sumPts c 3 (Transfers.shareTokN fullShare k.val) (part (xOf m c))
def recvPay (c : Dev nD) (k : Fin 3) : sProp 𝕄 := sumPts c k.castSucc fullShare (part (xOf m (fwd k.rev c)))

def ringRd : Rounds.Schedule (GSem nD τ sig) (Fin 3) 𝕄 where
  duties g r := if r = 0 ∧ g.1.2 = .tc then (match findIx g.2 with | some none => Finset.univ | some (some _) => {0} | none => ∅) else ∅
  unitless _ := False
  amount g _ _ := match findIx g.2 with | some none => 1 | _ => N
  payload g _ d := match findIx g.2 with
    | some none => barPay g.1.1 d
    | some (some (false, k)) => sendPay m g.1.1 k
    | some (some (true, k)) => recvPay m g.1.1 k
    | none => iprop(emp)
  amount_pos g _ _ _ := by
    split
    · exact Nat.one_pos
    · exact N_pos

instance ringRd_payload_storable (g : GSem nD τ sig) (r : ℕ) (d : Fin 3) : BI.Storable (upEmb : UEmb _ 𝕄) ((ringRd m).payload g r d) := by
  dsimp only [ringRd]
  unfold barPay recvPay sendPay
  split <;> infer_instance

section Sched
variable (c : Dev nD) (k : Fin 3)

theorem duties_bar : (ringRd m).duties (barCell c) 0 = Finset.univ := by
  dsimp only [ringRd]; rw [if_pos ⟨rfl, rfl⟩, findIx_csem]
theorem duties_xfer (b : Bool) : (ringRd m).duties (kcell (c, some (b, k))) 0 = {0} := by
  dsimp only [ringRd]; rw [if_pos ⟨rfl, rfl⟩, findIx_csem]
theorem duties_later (g : GSem nD τ sig) : ∀ r, 1 ≤ r → (ringRd m).duties g r = ∅ :=
  fun r hr => by dsimp only [ringRd]; rw [if_neg fun h => by omega]

theorem amount_bar (d : Fin 3) : (ringRd m).amount (barCell c) 0 d = 1 := by dsimp only [ringRd]; rw [findIx_csem]
theorem amount_xfer (b : Bool) (d : Fin 3) : (ringRd m).amount (kcell (c, some (b, k))) 0 d = N := by dsimp only [ringRd]; rw [findIx_csem]

theorem expect_bar : (ringRd m).expect (barCell c) 0 = 3 := by
  unfold Schedule.expect Schedule.amountOf
  rw [duties_bar, Finset.sum_congr rfl fun d _ => amount_bar m c d, Finset.sum_const, Finset.card_univ, Fintype.card_fin, smul_eq_mul]
theorem expect_xfer (b : Bool) : (ringRd m).expect (kcell (c, some (b, k))) 0 = N := by
  unfold Schedule.expect Schedule.amountOf; rw [duties_xfer, Finset.sum_singleton, amount_xfer]

theorem payload_bar (d : Fin 3) : (ringRd m).payload (barCell c) 0 d = barPay c d := by dsimp only [ringRd]; rw [findIx_csem]
theorem payload_send (d : Fin 3) : (ringRd m).payload (sendCell c k) 0 d = sendPay m c k := by dsimp only [ringRd]; rw [findIx_csem]
theorem payload_recv (d : Fin 3) : (ringRd m).payload (recvCell c k) 0 d = recvPay m c k := by dsimp only [ringRd]; rw [findIx_csem]

theorem rest_bar : bigSep ((ringRd m).duties (barCell c) 0 \ ∅) (fun d => (ringRd m).payload (barCell c) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons, bigSepL_singleton,
    payload_bar, payload_bar, payload_bar]
  rfl
theorem rest_send : bigSep ((ringRd m).duties (sendCell c k) 0 \ ∅) (fun d => (ringRd m).payload (sendCell c k) 0 d) = sendPay m c k := by
  rw [Finset.sdiff_empty, duties_xfer, bigSep_singleton, payload_send]
theorem rest_recv : bigSep ((ringRd m).duties (recvCell c k) 0 \ ∅) (fun d => (ringRd m).payload (recvCell c k) 0 d) = recvPay m c k := by
  rw [Finset.sdiff_empty, duties_xfer, bigSep_singleton, payload_recv]

end Sched

/-! ## What each device owes at launch; the levels -/

/-- The sendings `k`, …, 2 of device `c`, still owed to their receivers. -/
abbrev owed3 (_ : Dev nD) : CellTallies nD τ sig Unit := 0
abbrev owed2 (c : Dev nD) : CellTallies nD τ sig Unit := owed3 c + tallyAt (recvCell (fwd 2 c) 2) () N
abbrev owed1 (c : Dev nD) : CellTallies nD τ sig Unit := owed2 c + tallyAt (recvCell (fwd 1 c) 1) () N
abbrev owed0 (c : Dev nD) : CellTallies nD τ sig Unit := owed1 c + tallyAt (recvCell (fwd 0 c) 0) () N
/-- And the units, before the third, the second, the first is given. -/
abbrev owedB2 (c : Dev nD) : CellTallies nD τ sig Unit := owed0 c + tallyAt (barCell (fwd 2 c)) () 1
abbrev owedB1 (c : Dev nD) : CellTallies nD τ sig Unit := owedB2 c + tallyAt (barCell (fwd 1 c)) () 1
def O₀ (c : Dev nD) : CellTallies nD τ sig Unit := owedB1 c + tallyAt (barCell (fwd 0 c)) () 1

def L (g : GSem nD τ sig) : Finset Unit := if g.1.2 = .tc then {()} else ∅
/-- Barrier semaphores at 1, the receivers' at 2, everything else at 0. -/
def lv (g : GSem nD τ sig) (_ : Unit) : ℕ := match findIx g.2 with | some none => 1 | some (some (true, _)) => 2 | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by unfold lv; rw [show findIx (barCell c).2 = _ from findIx_csem none]
theorem lv_recv (c : Dev nD) (k : Fin 3) (u : Unit) : lv (recvCell c k) u = 2 := by unfold lv; rw [show findIx (recvCell c k).2 = _ from findIx_csem (some (true, k))]

theorem tally_pos {g g' : GSem nD τ sig} {u u' : Unit} {n : ℕ} {O : CellTallies nD τ sig Unit} (h : 0 < (O + tallyAt g' u' n) g u) :
    0 < O g u ∨ g = g' := by
  rw [Pi.add_apply, Finsupp.add_apply, tallyAt_apply] at h
  by_cases hg : g = g' ∧ u = u'
  · exact .inr hg.1
  · rw [if_neg hg] at h; exact .inl h

theorem owed0_pos {c : Dev nD} {g : GSem nD τ sig} {u : Unit} (h : 0 < owed0 c g u) : ∃ k, g = recvCell (fwd k c) k := by
  rcases tally_pos h with h | h
  · rcases tally_pos h with h | h
    · rcases tally_pos h with h | h
      · exact absurd h (Nat.lt_irrefl 0)
      · exact ⟨2, h⟩
    · exact ⟨1, h⟩
  · exact ⟨0, h⟩

theorem O₀_pos {c : Dev nD} {g : GSem nD τ sig} {u : Unit} (h : 0 < O₀ c g u) : ∃ c' : Dev nD, (∃ k, g = recvCell c' k) ∨ g = barCell c' := by
  rcases tally_pos h with h | h
  · rcases tally_pos h with h | h
    · rcases tally_pos h with h | h
      · obtain ⟨k, h⟩ := owed0_pos h; exact ⟨_, .inl ⟨k, h⟩⟩
      · exact ⟨_, .inr h⟩
    · exact ⟨_, .inr h⟩
  · exact ⟨_, .inr h⟩

/-- While a device owes its sendings only, it may wait on any semaphore below the receivers'. -/
theorem mayWait_owed (c : Dev nD) (s : SemLoc sig) (hs : lv ((c : Thread nD τ), s) () ≤ 1) :
    (levAts L lv : sProp 𝕄) ⊢ MayWait (c : Thread nD τ) s () (owed0 c) :=
  MayOwe.of_cut (L := L) (lev := lv) 1 (fun p hp => by rw [Finset.mem_singleton.mp hp, L_tc]; exact Finset.mem_singleton_self _)
    (fun g u hg => by obtain ⟨k, rfl⟩ := owed0_pos hg; exact Finset.mem_singleton_self _)
    (fun p hp => by rw [Finset.mem_singleton.mp hp]; exact hs)
    (fun g u hg => by obtain ⟨k, rfl⟩ := owed0_pos hg; rw [lv_recv]; decide)

theorem mayWait_bar (c : Dev nD) : (levAts L lv : sProp 𝕄) ⊢ MayWait (c : Thread nD τ) (.reg barS) () (owed0 c) :=
  mayWait_owed c _ (lv_bar c ()).le
theorem mayWait_copy (c : Dev nD) (k : Fin 4) : (levAts L lv : sProp 𝕄) ⊢ MayWait (c : Thread nD τ) (.dma (copyS k)) () (owed0 c) :=
  mayWait_owed c _ (by unfold lv; rw [findIx_copy]; exact Nat.zero_le _)

end Cert.SumProof

end
-- ==== Proof.LocalSteps.lean ====
/-
  Bringing the rows in: one copy started, one copy waited for, one slot read.
-/
module

public import proofs.«01_k».proof.Proof.Protocol

@[expose] public section

noncomputable section

namespace Cert.SumProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- The share of the block that copy `j` reads. -/
def rowTok (c : Dev nD) (j : Fin 8) : sProp 𝕄 :=
  (rowsM j).view.loc (c : Thread nD τ) ↦[(rowsM j).view.set]{Transfers.shareTokN fullShare j.val} (xOf m c)

/-- Slot `k` of the rows, holding `w`; at whatever contents. -/
def bufPts (c : Dev nD) (k : Fin 4) (w : Vec F S1x512x1024 .f32) : sProp 𝕄 :=
  (bufM k).view.loc (c : Thread nD τ) ↦[(bufM k).view.set]{fullShare} (bufOf w)
def bufFree (c : Dev nD) (k : Fin 4) : sProp 𝕄 :=
  iprop(∃ f : Buf (Elt F) ((bufM k).view.loc (c : Thread nD τ)), (bufM k).view.loc (c : Thread nD τ) ↦[(bufM k).view.set]{fullShare} f)

/-- Slot `k` free, its semaphore at zero: copies can go there. -/
def bufIdle (c : Dev nD) (k : Fin 4) : sProp 𝕄 := iprop(bufFree (F := F) c k ∗ semVal ((c : Thread nD τ), .dma (copyS k)) 0)
/-- Slot `k` holding part `j` of the block, its semaphore at zero. -/
def bufFull (c : Dev nD) (k : Fin 4) (j : Fin 8) : sProp 𝕄 := iprop(bufPts c k (chunk (xOf m c) j) ∗ semVal ((c : Thread nD τ), .dma (copyS k)) 0)
/-- Copy `j` on its way into slot `k`. -/
def bufBusy (c : Dev nD) (k : Fin 4) (j : Fin 8) : sProp 𝕄 :=
  Transfers.Flight (countersEmb : UEmb Counters 𝕄) (c : Thread nD τ) (.dma (copyS k)) () NC (bufPts c k (chunk (xOf m c) j))

/-- What the device owes, after whatever waits. -/
def owing (c : Dev nD) (O : CellTallies nD τ sig Unit) : sProp 𝕄 := iprop(∃ W, owes (c : Thread nD τ) O W)

theorem bufPts_free (c : Dev nD) (k : Fin 4) (w : Vec F S1x512x1024 .f32) : bufPts c k w ⊢ (bufFree c k : sProp 𝕄) := by
  unfold bufPts bufFree; iintro H; iexists _; iexact H

theorem bufFull_idle (c : Dev nD) (k : Fin 4) (j : Fin 8) : bufFull m c k j ⊢ (bufIdle c k : sProp 𝕄) := by
  unfold bufFull bufIdle
  iintro ⟨H, Hv⟩
  isplitl [H]; · iapply (bufPts_free c k _) $$ H
  iexact Hv

variable (c : Dev nD)

/-- Copy `j` started into slot `k`. -/
theorem start_copy {α : Type} {Q : α → sProp 𝕄} (j : Fin 8) (k : Fin 4) {hsrc : (rowsM j).view.WordExact} {hdst : (bufM k).view.WordExact}
    {hsem : DmaTarget.Typed (nD := nD) (τ := τ) (p := (.tc : Proc τ)) .hbm (.dma (copyS k)) (.here (bufM k))} {kk : PUnit → Prog (TpuEff nD τ sig (Elt F) Λ₀ .tc) α} :
    iprop(rowTok m c j ∗ bufIdle c k)
      ⊢ iprop((bufBusy m c k j -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (rowsM j) (.here (bufM k)) (.dma (copyS k)) hsrc hdst hsem) kk) Q) := by
  unfold rowTok bufIdle bufFree bufBusy
  iintro ⟨Hx, ⟨%f, Hb⟩, Hv⟩ Hk
  iapply (Transfers.wp_dmaLocal (countersEmb : UEmb Counters 𝕄) 𝒱₀ (c : Thread nD τ) none () NC rfl NC_pos (Finset.Subset.refl _)) $$ [Hx Hb Hv]
  · isplitl [Hx]; · iexact Hx
    isplitl [Hb]; · iexact Hb
    iexact Hv
  iintro Hf
  iapply Hk
  iapply (Transfers.Flight_mono (countersEmb : UEmb Counters 𝕄) (c : Thread nD τ) ?_) $$ Hf
  unfold bufPts
  iintro ⟨Hd, -⟩
  iapply (Entails.of_eq (pointsTo_congr (landed_buf k j (xOf m c) f))) $$ Hd

/-- Slot `k`'s copy waited for. -/
theorem wait_copy {α : Type} {Q : α → sProp 𝕄} (j : Fin 8) (k : Fin 4) {src : Memref sig .tc .hbm S512x1024 .f32} {hsrc : src.view.WordExact} {hdst : (bufM k).view.WordExact}
    {kk : PUnit → Prog (TpuEff nD τ sig (Elt F) Λ₀ .tc) α} :
    iprop(bufBusy m c k j ∗ owing c (owed0 c) ∗ levAts L lv)
      ⊢ iprop((iprop(bufFull m c k j ∗ owing c (owed0 c)) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (copyS k) src (bufM k) hsrc hdst) kk) Q) := by
  unfold bufBusy bufFull owing
  iintro ⟨Hf, ⟨%W, HO⟩, Hl⟩ Hk
  iapply (Transfers.wp_waitLocalO (countersEmb : UEmb Counters 𝕄) 𝒱₀ (c : Thread nD τ) none () rfl) $$ [Hf HO Hl]
  · isplitl [Hf]; · iexact Hf
    isplitl [HO]; · iexact HO
    iapply (mayWait_copy c k) $$ Hl
  iintro ⟨Hd, Hv, HO⟩
  iapply Hk
  isplitl [Hd Hv]
  · isplitl [Hd]; · iexact Hd
    iexact Hv
  iexists _; iexact HO

/-- Slot `k` read. -/
theorem read_slot {α : Type} {Q : α → sProp 𝕄} (j : Fin 8) (k : Fin 4) {hl : bM.view.LoadsAt (bufRect k).toLoadRect}
    {kk : Vec F S1x512x1024 .f32 → Prog (TpuEff nD τ sig (Elt F) Λ₀ .tc) α} :
    bufFull m c k j
      ⊢ iprop((bufFull m c k j -∗ wp frame (wpE (defs₀ (F := F)) 𝒱₀ (c : Thread nD τ) none) Set.univ (kk (chunk (xOf m c) j)) Q)
          -∗ wp frame (wpE (defs₀ (F := F)) 𝒱₀ (c : Thread nD τ) none) Set.univ (.op (.load bM (bufRect k).toLoadRect hl) kk) Q) := by
  unfold bufFull bufPts
  iintro ⟨H, Hv⟩ Hk
  iapply (wp_load 𝒱₀ (c : Thread nD τ) none Set.univ (m := bM) (r := (bufRect k).toLoadRect)
    (S := (bufM k).view.set) (by rw [bufM_set]; exact (Finset.map_refl (s := (bufRect k).set)).subset)) $$ H
  iintro H
  rw [load_buf]
  iapply Hk
  isplitl [H]; · iexact H
  iexact Hv

end Cert.SumProof

end
-- ==== Proof.SendSteps.lean ====
/-
  The meeting at the barrier, the sendings, and what is waited for.
-/
module

public import proofs.«01_k».proof.Proof.LocalSteps

@[expose] public section

noncomputable section

namespace Cert.SumProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- Every shared semaphore's invariant, under the names `K`, and that its one round is open. -/
def records (K : Dev nD × CellIx → ℕ) : sProp 𝕄 :=
  iprop((bigSep Finset.univ fun ck : Dev nD × CellIx => (cellInv ER (ringRd m) (K ck) (kcell ck) : sProp 𝕄))
    ∗ (bigSep Finset.univ fun ck : Dev nD × CellIx => (reached ER (kcell ck) 0 : sProp 𝕄)))

instance records_persistent (K : Dev nD × CellIx → ℕ) : BI.Persistent (records m K) := by unfold records; infer_instance

theorem inv_at (K : Dev nD × CellIx → ℕ) (ck : Dev nD × CellIx) : records m K ⊢ (cellInv ER (ringRd m) (K ck) (kcell ck) : sProp 𝕄) := by
  unfold records
  iintro ⟨H, -⟩
  have h : (bigSep Finset.univ fun ck : Dev nD × CellIx => (cellInv ER (ringRd m) (K ck) (kcell ck) : sProp 𝕄))
      ⊢ cellInv ER (ringRd m) (K ck) (kcell ck) := bigSep_elim (Finset.mem_univ ck)
  iapply h $$ H

theorem reached_at (K : Dev nD × CellIx → ℕ) (ck : Dev nD × CellIx) : records m K ⊢ (reached ER (kcell ck) 0 : sProp 𝕄) := by
  unfold records
  iintro ⟨-, H⟩
  have h : (bigSep Finset.univ fun ck : Dev nD × CellIx => (reached ER (kcell ck) 0 : sProp 𝕄)) ⊢ reached ER (kcell ck) 0 :=
    bigSep_elim (Finset.mem_univ ck)
  iapply h $$ H

variable (K : Dev nD × CellIx → ℕ) (c : Dev nD)

/-! ## The barrier -/

/-- A unit given to the device `k + 1` places on, and with it the slot which that device writes here. -/
theorem give_unit {α : Type} {Q : α → sProp 𝕄} (k : Fin 3) (O : CellTallies nD τ sig Unit) (n : Dev nD) (hn : n = fwd k c)
    {kk : PUnit → Prog (TpuEff nD τ sig (Elt F) Λ₀ .tc) α} :
    iprop(records m K ∗ owing c (O + tallyAt (barCell (fwd k c)) () 1) ∗ dutyTok ER (barCell (fwd k c)) 0 k ∗ sumFree (F := F) c k.rev.castSucc)
      ⊢ iprop((owing c O -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (n, .tc) barS (1#32 : BitVec 32).toInt) kk) Q) := by
  subst hn
  unfold owing
  iintro ⟨#HR, ⟨%W, HO⟩, Ht, Hs⟩ Hk
  iapply (Rounds.wp_signal 𝒱₀ ER (ringRd m) (c : Thread nD τ) none (dst := (fwd k c : Thread nD τ)) (κ := K (fwd k c, none))
      (d := k) (by rw [duties_bar]; exact Finset.mem_univ _) ((amount_bar m (fwd k c) k).trans (by decide)) () O rfl) $$ [HO Ht Hs]
  · isplitr; · iapply (inv_at m K (fwd k c, none)) $$ HR
    isplitl [HO]; · iexact HO
    isplitl [Ht]; · iexact Ht
    isplitl [Hs]
    · rw [payload_bar]; unfold barPay; rw [fwd_rev]
      isplitl [Hs]; · iexact Hs
      iapply (reached_at m K (c, some (true, k.rev))) $$ HR
    · iapply (reached_at m K (fwd k c, none)) $$ HR
  iintro HO
  iapply Hk
  iexists _; iexact HO

/-- The three units collected: the slot this device writes on each other device is its own. -/
theorem collect {α : Type} {Q : α → sProp 𝕄} {kk : PUnit → Prog (TpuEff nD τ sig (Elt F) Λ₀ .tc) α} :
    iprop(records m K ∗ cred (tallyAt (barCell c) () 3) ∗ owing c (owed0 c) ∗ levAts L lv ∗ atPos ER (barCell c) 0 ∅ 0)
      ⊢ iprop((iprop(owing c (owed0 c) ∗ semVal (barCell c) 0 ∗ sumFree (F := F) (fwd 0 c) 0 ∗ sumFree (F := F) (fwd 1 c) 1 ∗ sumFree (F := F) (fwd 2 c) 2)
            -∗ wp frame (wpE (defs₀ (F := F)) 𝒱₀ (c : Thread nD τ) none) Set.univ (kk ⟨⟩) Q)
          -∗ wp frame (wpE (defs₀ (F := F)) 𝒱₀ (c : Thread nD τ) none) Set.univ (.op (.semWait barS (3#32 : BitVec 32).toInt) kk) Q) := by
  unfold owing
  iintro ⟨#HR, Hc, ⟨%W, HO⟩, #Hlev, Hat⟩ Hk
  iapply (Rounds.wp_wait_rest_token 𝒱₀ ER (ringRd m) (c : Thread nD τ) none (κ := K (c, none))
      (wpE_semWait_eq 𝒱₀ (c : Thread nD τ) none Set.univ) (Set.mem_univ _) () (O := owed0 c) (W := W) (R := 0) (m := 0) (T := ∅)
      (by rw [expect_bar]; decide)) $$ [Hc HO Hat]
  · isplitr; · iapply (inv_at m K (c, none)) $$ HR
    isplitl [Hc]; · iexact Hc
    isplitl [HO]; · iexact HO
    isplitr; · iapply (mayWait_bar c); iexact Hlev
    iexact Hat
  iintro ⟨HO, Hat, -, Hpay⟩
  ihave Hp := (Entails.of_eq (rest_bar m c)) $$ Hpay
  unfold barPay
  icases Hp with ⟨⟨H2, -⟩, ⟨H1, -⟩, ⟨H0, -⟩⟩
  imod (Rounds.cell_close ER (ringRd m) (Set.mem_univ (K (c, none))) (fun h => h) (R := 0 + 1) (duties_later m (barCell c))) $$ [Hat] with Hz
  · isplitr; · iapply (inv_at m K (c, none)) $$ HR
    iexact Hat
  iapply Hk
  isplitl [HO]; · iexists _; iexact HO
  isplitl [Hz]; · iexact Hz
  isplitl [H0]; · iexact H0
  isplitl [H1]; · iexact H1
  iexact H2

/-! ## The sendings -/

/-- Sending `k` started: the share of the sum goes out with it, and the slot on the receiver. -/
theorem start_send {α : Type} {Q : α → sProp 𝕄} (k : Fin 3) (O : CellTallies nD τ sig Unit) (n : Dev nD) (hn : n = fwd k c)
    {hsc : (sumM k.castSucc : Memref sig (Dev.tc n : Thread nD τ).2.kind .vmem S1x1024 .f32).view.ref.isScScratch = false}
    {hsrc : (sumM 3).view.WordExact} {hdst : (sumM k.castSucc).view.WordExact}
    {hsem : DmaTarget.Typed .vmem (.dma (recvS k)) (.remote (Dev.tc n : Thread nD τ) (sumM k.castSucc) (.dma (sendS k)) hsc)}
    {kk : PUnit → Prog (TpuEff nD τ sig (Elt F) Λ₀ .tc) α} :
    iprop(records m K ∗ sumPts c 3 (Transfers.shareTokN fullShare k.val) (part (xOf m c)) ∗ sumFree (F := F) (fwd k c) k.castSucc
        ∗ owing c (O + tallyAt (recvCell (fwd k c) k) () N) ∗ dutyTok ER (sendCell c k) 0 0 ∗ dutyTok ER (recvCell (fwd k c) k) 0 0)
      ⊢ iprop((iprop(cred (tallyAt (sendCell c k) () N) ∗ owing c O) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (sumM 3) (.remote (Dev.tc n : Thread nD τ) (sumM k.castSucc) (.dma (sendS k)) hsc) (.dma (recvS k)) hsrc hdst hsem) kk) Q) := by
  subst hn
  unfold owing sumPts sumFree
  iintro ⟨#HR, Hs, ⟨%fd, Hd⟩, ⟨%W, HO⟩, Ht1, Ht2⟩ Hk
  iapply (Rounds.wp_send_pointsTo 𝒱₀ ER (ringRd m) (c : Thread nD τ) none (κ₁ := K (c, some (false, k))) (κ₂ := K (fwd k c, some (true, k)))
    (r₁ := 0) (r₂ := 0) (d₁ := 0) (d₂ := 0) (fd := fd)
    (by rw [duties_xfer m c k false]; exact Finset.mem_singleton_self _) (by rw [duties_xfer m (fwd k c) k true]; exact Finset.mem_singleton_self _)
    () () N rfl (amount_xfer m c k false 0) (amount_xfer m (fwd k c) k true 0) O rfl (W := W)
    (by rw [payload_send]; unfold sendPay sumPts; exact BI.Entails.refl _)
    (by rw [payload_recv]; unfold recvPay sumPts; rw [fwd_rev]; exact Entails.of_eq (pointsTo_congr (landed_sum k.castSucc 3 (part (xOf m c)) fd)))) $$ [Hs Hd HO Ht1 Ht2]
  · isplitr; · iapply (inv_at m K (c, some (false, k))) $$ HR
    isplitr; · iapply (inv_at m K (fwd k c, some (true, k))) $$ HR
    isplitl [Hs]; · iexact Hs
    isplitl [Hd]; · iexact Hd
    isplitl [HO]; · iexact HO
    isplitl [Ht1]; · iexact Ht1
    isplitr; · iapply (reached_at m K (c, some (false, k))) $$ HR
    isplitl [Ht2]; · iexact Ht2
    iapply (reached_at m K (fwd k c, some (true, k))) $$ HR
  iintro ⟨Hc, HO⟩
  iapply Hk
  isplitl [Hc]; · iexact Hc
  iexists _; iexact HO

/-- Sending `k` has left: the share of the sum is back. -/
theorem wait_send {α : Type} {Q : α → sProp 𝕄} (k : Fin 3) {s' : Shape} {src : Memref sig .tc .vmem s' .f32}
    {hsrc : src.view.WordExact} {hdst : (sumM 3).view.WordExact}
    {kk : PUnit → Prog (TpuEff nD τ sig (Elt F) Λ₀ .tc) α} :
    iprop(records m K ∗ cred (tallyAt (sendCell c k) () N) ∗ owing c 0 ∗ atPos ER (sendCell c k) 0 ∅ 0)
      ⊢ iprop((iprop(owing c 0 ∗ semVal (sendCell c k) 0 ∗ sumPts c 3 (Transfers.shareTokN fullShare k.val) (part (xOf m c)))
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (sendS k) src (sumM 3) hsrc hdst) kk) Q) := by
  unfold owing
  iintro ⟨#HR, Hc, ⟨%W, HO⟩, Hat⟩ Hk
  iapply (Rounds.wp_wait_rest_token 𝒱₀ ER (ringRd m) (c : Thread nD τ) none (κ := K (c, some (false, k)))
      (wpE_waitDma2_eq 𝒱₀ (c : Thread nD τ) none Set.univ) (Set.mem_univ _) () (O := 0) (W := W) (R := 0) (m := 0) (T := ∅)
      (by rw [Nat.zero_add]; exact (expect_xfer m c k false).symm)) $$ [Hc HO Hat]
  · isplitr; · iapply (inv_at m K (c, some (false, k))) $$ HR
    isplitl [Hc]; · iexact Hc
    isplitl [HO]; · iexact HO
    isplitr; · rw [MayWait_zero]; iempintro
    iexact Hat
  iintro ⟨HO, Hat, -, Hpay⟩
  ihave Hs := (Entails.of_eq (rest_send m c k)) $$ Hpay
  imod (Rounds.cell_close ER (ringRd m) (Set.mem_univ (K (c, some (false, k)))) (fun h => h) (R := 0 + 1) (duties_later m (sendCell c k))) $$ [Hat] with Hz
  · isplitr; · iapply (inv_at m K (c, some (false, k))) $$ HR
    iexact Hat
  iapply Hk
  isplitl [HO]; · iexists _; iexact HO
  isplitl [Hz]; · iexact Hz
  unfold sendPay; iexact Hs

/-- The sum of the device `k + 1` places back has come: it is in slot `k`. -/
theorem wait_recv {α : Type} {Q : α → sProp 𝕄} (k : Fin 3) {s' : Shape} {src : Memref sig .tc .vmem s' .f32}
    {hsrc : src.view.WordExact} {hdst : (sumM k.castSucc).view.WordExact}
    {kk : PUnit → Prog (TpuEff nD τ sig (Elt F) Λ₀ .tc) α} :
    iprop(records m K ∗ cred (tallyAt (recvCell c k) () N) ∗ owing c 0 ∗ atPos ER (recvCell c k) 0 ∅ 0)
      ⊢ iprop((iprop(owing c 0 ∗ semVal (recvCell c k) 0 ∗ sumPts c k.castSucc fullShare (part (xOf m (fwd k.rev c))))
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (recvS k) src (sumM k.castSucc) hsrc hdst) kk) Q) := by
  unfold owing
  iintro ⟨#HR, Hc, ⟨%W, HO⟩, Hat⟩ Hk
  iapply (Rounds.wp_wait_rest_token 𝒱₀ ER (ringRd m) (c : Thread nD τ) none (κ := K (c, some (true, k)))
      (wpE_waitDma2_eq 𝒱₀ (c : Thread nD τ) none Set.univ) (Set.mem_univ _) () (O := 0) (W := W) (R := 0) (m := 0) (T := ∅)
      (by rw [Nat.zero_add]; exact (expect_xfer m c k true).symm)) $$ [Hc HO Hat]
  · isplitr; · iapply (inv_at m K (c, some (true, k))) $$ HR
    isplitl [Hc]; · iexact Hc
    isplitl [HO]; · iexact HO
    isplitr; · rw [MayWait_zero]; iempintro
    iexact Hat
  iintro ⟨HO, Hat, -, Hpay⟩
  ihave Hs := (Entails.of_eq (rest_recv m c k)) $$ Hpay
  imod (Rounds.cell_close ER (ringRd m) (Set.mem_univ (K (c, some (true, k)))) (fun h => h) (R := 0 + 1) (duties_later m (recvCell c k))) $$ [Hat] with Hz
  · isplitr; · iapply (inv_at m K (c, some (true, k))) $$ HR
    iexact Hat
  iapply Hk
  isplitl [HO]; · iexists _; iexact HO
  isplitl [Hz]; · iexact Hz
  unfold recvPay; iexact Hs

/-- A slot of partial sums read. -/
theorem read_sum {α : Type} {Q : α → sProp 𝕄} (k : Fin 4) (w : Vec F S1x1x1024 .f32) {hl : sM.view.LoadsAt (sumRect k).toLoadRect}
    {kk : Vec F S1x1x1024 .f32 → Prog (TpuEff nD τ sig (Elt F) Λ₀ .tc) α} :
    sumPts c k fullShare w
      ⊢ iprop((sumPts c k fullShare w -∗ wp frame (wpE (defs₀ (F := F)) 𝒱₀ (c : Thread nD τ) none) Set.univ (kk w) Q)
          -∗ wp frame (wpE (defs₀ (F := F)) 𝒱₀ (c : Thread nD τ) none) Set.univ (.op (.load sM (sumRect k).toLoadRect hl) kk) Q) := by
  unfold sumPts
  iintro H Hk
  iapply (wp_load 𝒱₀ (c : Thread nD τ) none Set.univ (m := sM) (r := (sumRect k).toLoadRect)
    (S := (sumM k).view.set) (by rw [sumM_set]; exact (Finset.map_refl (s := (sumRect k).set)).subset)) $$ H
  iintro H
  rw [load_sum]
  iapply Hk $$ H

end Cert.SumProof

end
-- ==== Proof.BodyMeet.lean ====
/-
  The parts of the body that meet other devices: the barrier, the three sendings, the three arrivals, and the result written out.
-/
module

public import proofs.«01_k».proof.Proof.SendSteps

@[expose] public section

noncomputable section

namespace Cert.SumProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CellIx → ℕ) (c : Dev nD)

/-- The barrier: one unit to each other device, three collected. -/
theorem run_part2 (v2 v22 v28 : BitVec 32) (v27 : BitVec 1) (Kt : _ → sProp 𝕄) :
    iprop((records m K ∗ levAts L lv ∗ owing c (O₀ c)
            ∗ dutyTok ER (barCell (fwd 0 c)) 0 0 ∗ dutyTok ER (barCell (fwd 1 c)) 0 1 ∗ dutyTok ER (barCell (fwd 2 c)) 0 2
            ∗ sumFree c 0 ∗ sumFree c 1 ∗ sumFree c 2
            ∗ cred (tallyAt (barCell c) () 3) ∗ atPos ER (barCell c) 0 ∅ 0)
        ∗ ((owing c (owed0 c) ∗ semVal (barCell c) 0 ∗ sumFree (fwd 0 c) 0 ∗ sumFree (fwd 1 c) 1 ∗ sumFree (fwd 2 c) 2) -∗ Kt ⟨⟩))
      ⊢ wp frame (wpE (defs₀ (F := F)) 𝒱₀ (c : Thread nD τ) none) Set.univ
          (k0_part2 (F := F) xM (Memref.isWhole_whole _) oM (Memref.isWhole_whole _) bM (Memref.isWhole_whole _) sM (Memref.isWhole_whole _)
            vM (Memref.isWhole_whole _) cc0_scratch3 cc0_scratch4 cc0_scratch5 cc0_scratch6 c v2 (SemArray.scalar (sig.barrier 0 rfl)) v22 v27 v28) Kt := by
  rw [k0_part2_eq_skeleton]; unfold k0_part2_skel
  simp only [Prog.lift, Prog.bind_op, Prog.bind_ret, Prog.pure_eq_ret, semSignalWord, semWaitWord]
  iintro ⟨⟨#HR, #Hlev, HO, Ht0, Ht1, Ht2, Hs0, Hs1, Hs2, Hc, Hat⟩, Hk⟩
  iapply (give_unit m K c 0 (owedB1 c) _ (dev1_eq c)) $$ [HO Ht0 Hs2]
  · isplitr; · iexact HR
    isplitl [HO]; · iexact HO
    isplitl [Ht0]; · iexact Ht0
    iexact Hs2
  iintro HO
  iapply (give_unit m K c 1 (owedB2 c) _ (dev2_eq c)) $$ [HO Ht1 Hs1]
  · isplitr; · iexact HR
    isplitl [HO]; · iexact HO
    isplitl [Ht1]; · iexact Ht1
    iexact Hs1
  iintro HO
  iapply (give_unit m K c 2 (owed0 c) _ (dev3_eq c)) $$ [HO Ht2 Hs0]
  · isplitr; · iexact HR
    isplitl [HO]; · iexact HO
    isplitl [Ht2]; · iexact Ht2
    iexact Hs0
  iintro HO
  iapply (collect m K c) $$ [HO Hc Hat]
  · isplitr; · iexact HR
    isplitl [Hc]; · iexact Hc
    isplitl [HO]; · iexact HO
    isplitr; · iexact Hlev
    iexact Hat
  iintro H
  rw [wp_ret]; imodintro
  iapply Hk $$ H

/-- The share of the sum that sending `k` takes. -/
abbrev sumTok (k : Fin 3) : sProp 𝕄 := sumPts c 3 (Transfers.shareTokN fullShare k.val) (part (xOf m c))

/-- The first sending. -/
theorem run_part7 (v2 v167 v168 : BitVec 32) (Kt : _ → sProp 𝕄) :
    iprop((records m K ∗ sumTok m c 0 ∗ sumFree (fwd 0 c) 0 ∗ owing c (owed0 c) ∗ dutyTok ER (sendCell c 0) 0 0 ∗ dutyTok ER (recvCell (fwd 0 c) 0) 0 0)
        ∗ (∀ (v175 v196 : BitVec 32), (cred (tallyAt (sendCell c 0) () N) ∗ owing c (owed1 c)) -∗ Kt ⟨v175, v196⟩))
      ⊢ wp frame (wpE (defs₀ (F := F)) 𝒱₀ (c : Thread nD τ) none) Set.univ
          (k0_part7 (F := F) xM (Memref.isWhole_whole _) oM (Memref.isWhole_whole _) bM (Memref.isWhole_whole _) sM (Memref.isWhole_whole _)
            vM (Memref.isWhole_whole _) cc0_scratch3 cc0_scratch4 cc0_scratch5 cc0_scratch6 c v2 v167 v168) Kt := by
  rw [k0_part7_eq_skeleton]; unfold k0_part7_skel
  simp only [Prog.lift, Prog.bind_op, Prog.bind_ret, Prog.pure_eq_ret]
  iintro ⟨⟨#HR, Hs, Hf, HO, Ha, Hb⟩, Hk⟩
  iapply (start_send m K c 0 (owed1 c) _ (dev4_eq c)) $$ [Hs Hf HO Ha Hb]
  · isplitr; · iexact HR
    isplitl [Hs]; · iexact Hs
    isplitl [Hf]; · iexact Hf
    isplitl [HO]; · iexact HO
    isplitl [Ha] <;> iassumption
  iintro H
  rw [wp_ret]; imodintro
  iapply Hk $$ H

/-- The second and third sendings. -/
theorem run_part8 (v2 : BitVec 32) (Kt : _ → sProp 𝕄) :
    iprop((records m K ∗ sumTok m c 1 ∗ sumTok m c 2 ∗ sumFree (fwd 1 c) 1 ∗ sumFree (fwd 2 c) 2 ∗ owing c (owed1 c)
            ∗ dutyTok ER (sendCell c 1) 0 0 ∗ dutyTok ER (recvCell (fwd 1 c) 1) 0 0 ∗ dutyTok ER (sendCell c 2) 0 0 ∗ dutyTok ER (recvCell (fwd 2 c) 2) 0 0)
        ∗ (∀ (v217 : BitVec 32), (cred (tallyAt (sendCell c 1) () N) ∗ cred (tallyAt (sendCell c 2) () N) ∗ owing c 0) -∗ Kt v217))
      ⊢ wp frame (wpE (defs₀ (F := F)) 𝒱₀ (c : Thread nD τ) none) Set.univ
          (k0_part8 (F := F) xM (Memref.isWhole_whole _) oM (Memref.isWhole_whole _) bM (Memref.isWhole_whole _) sM (Memref.isWhole_whole _)
            vM (Memref.isWhole_whole _) cc0_scratch3 cc0_scratch4 cc0_scratch5 cc0_scratch6 c v2) Kt := by
  rw [k0_part8_eq_skeleton]; unfold k0_part8_skel
  simp only [Prog.lift, Prog.bind_op, Prog.bind_ret, Prog.pure_eq_ret]
  iintro ⟨⟨#HR, Hs1, Hs2, Hf1, Hf2, HO, Ha1, Hb1, Ha2, Hb2⟩, Hk⟩
  iapply (start_send m K c 1 (owed2 c) _ (dev5_eq c)) $$ [Hs1 Hf1 HO Ha1 Hb1]
  · isplitr; · iexact HR
    isplitl [Hs1]; · iexact Hs1
    isplitl [Hf1]; · iexact Hf1
    isplitl [HO]; · iexact HO
    isplitl [Ha1] <;> iassumption
  iintro ⟨Hc1, HO⟩
  iapply (start_send m K c 2 (owed3 c) _ (dev6_eq c)) $$ [Hs2 Hf2 HO Ha2 Hb2]
  · isplitr; · iexact HR
    isplitl [Hs2]; · iexact Hs2
    isplitl [Hf2]; · iexact Hf2
    isplitl [HO]; · iexact HO
    isplitl [Ha2] <;> iassumption
  iintro ⟨Hc2, HO⟩
  rw [wp_ret]; imodintro
  iapply Hk
  isplitl [Hc1]; · iexact Hc1
  isplitl [Hc2]; · iexact Hc2
  iexact HO

/-- What the first arrival adds to the sum. -/
theorem run_part9 (v161 : FVec F S1x1024 .f32) (v175 v217 : BitVec 32) (Kt : _ → sProp 𝕄) :
    iprop((records m K ∗ owing c 0 ∗ cred (tallyAt (sendCell c 0) () N) ∗ atPos ER (sendCell c 0) 0 ∅ 0
            ∗ cred (tallyAt (recvCell c 0) () N) ∗ atPos ER (recvCell c 0) 0 ∅ 0 ∗ cred (tallyAt (sendCell c 2) () N) ∗ atPos ER (sendCell c 2) 0 ∅ 0)
        ∗ ((owing c 0 ∗ semVal (sendCell c 0) 0 ∗ sumTok m c 0 ∗ semVal (recvCell c 0) 0 ∗ sumPts c 0 fullShare (part (xOf m (fwd 2 c)))
            ∗ semVal (sendCell c 2) 0 ∗ sumTok m c 2) -∗ Kt (k0_pay8 v161 (part (xOf m (fwd 2 c))))))
      ⊢ wp frame (wpE (defs₀ (F := F)) 𝒱₀ (c : Thread nD τ) none) Set.univ
          (k0_part9 (F := F) xM (Memref.isWhole_whole _) oM (Memref.isWhole_whole _) bM (Memref.isWhole_whole _) sM (Memref.isWhole_whole _)
            vM (Memref.isWhole_whole _) cc0_scratch3 cc0_scratch4 cc0_scratch5 cc0_scratch6 v161 v175 v217) Kt := by
  rw [k0_part9_eq_skeleton]; unfold k0_part9_skel
  simp only [Prog.lift, Prog.bind_op, Prog.bind_ret, Prog.pure_eq_ret]
  iintro ⟨⟨#HR, HO, Hc0, Ha0, Hd0, Hb0, Hc2, Ha2⟩, Hk⟩
  iapply (wait_send m K c 0) $$ [HO Hc0 Ha0]
  · isplitr; · iexact HR
    isplitl [Hc0]; · iexact Hc0
    isplitl [HO] <;> iassumption
  iintro ⟨HO, Hv0, Hs0⟩
  iapply (wait_recv m K c 0) $$ [HO Hd0 Hb0]
  · isplitr; · iexact HR
    isplitl [Hd0]; · iexact Hd0
    isplitl [HO] <;> iassumption
  iintro ⟨HO, Hw0, Hp0⟩
  iapply (read_sum c 0 (part (xOf m (fwd 2 c)))) $$ [Hp0]
  · iexact Hp0
  iintro Hp0
  iapply (wait_send m K c 2) $$ [HO Hc2 Ha2]
  · isplitr; · iexact HR
    isplitl [Hc2]; · iexact Hc2
    isplitl [HO] <;> iassumption
  iintro ⟨HO, Hv2, Hs2⟩
  rw [wp_ret]; imodintro
  iapply Hk
  isplitl [HO]; · iexact HO
  isplitl [Hv0]; · iexact Hv0
  isplitl [Hs0]; · iexact Hs0
  isplitl [Hw0]; · iexact Hw0
  isplitl [Hp0]; · iexact Hp0
  isplitl [Hv2] <;> iassumption

/-- The staging row, and the result's row, holding `w`. -/
def rowV (w : Vec F S1x1024 .f32) : sProp 𝕄 := vM.view.loc (c : Thread nD τ) ↦[vM.view.set]{fullShare} w
def rowO (w : Vec F S1x1024 .f32) : sProp 𝕄 := oM.view.loc (c : Thread nD τ) ↦[oM.view.set]{fullShare} w

/-- How much a copy of one row counts. -/
def NO : ℕ := oM.view.dmaCredit
theorem NO_pos : 0 < NO := by decide

theorem offs_zero : (![0, 0] : Fin 2 → Nat) = fun _ => 0 := funext fun a => by fin_cases a <;> rfl

abbrev rowRect : Rect S1x1024 := Rect.unit (s := S1x1024) ![0, 0] S1x1024.size inb_S1x1024_S1x1024_0_0

theorem stored_row (f w : S1x1024.Idx → Elt F .f32) :
    (vM.access rowRect).write (Elt F) f w Finset.univ = w :=
  Memref.write_access_unit_zero_univ (Elt F) cc0_scratch2 offs_zero _ f w

theorem landed_row (f w : S1x1024.Idx → Elt F .f32) : oM.view.write (Elt F) f (vM.view.read (Elt F) w) Finset.univ = w := by

  show (View.whole main_v1).write (Elt F) f ((View.whole cc0_scratch2).read (Elt F) w) Finset.univ = w
  rw [View.read_whole]; exact View.write_whole_univ main_v1 f w

/-- The staging row stored. -/
theorem store_row {α : Type} {Q : α → sProp 𝕄} (w' w : Vec F S1x1024 .f32) {hst : (vM.access rowRect).Stores Finset.univ}
    {hm : (Finset.univ : Finset rowRect.shape.Idx) = Finset.univ ∨ ∀ a, rowRect.stride a = 1}
    {kk : PUnit → Prog (TpuEff nD τ sig (Elt F) Λ₀ .tc) α} :
    rowV c w'
      ⊢ iprop((rowV c w -∗ wp frame (wpE (defs₀ (F := F)) 𝒱₀ (c : Thread nD τ) none) Set.univ (kk ⟨⟩) Q)
          -∗ wp frame (wpE (defs₀ (F := F)) 𝒱₀ (c : Thread nD τ) none) Set.univ (.op (.store vM rowRect w Finset.univ hst hm) kk) Q) := by
  unfold rowV
  iintro H Hk
  iapply (wp_store 𝒱₀ (c : Thread nD τ) none Set.univ (m := vM) (r := rowRect) (Mk := Finset.univ) (S := vM.view.set)
    (by rw [View.set_whole]; exact Finset.subset_univ _)) $$ H
  iintro H
  rw [stored_row]
  iapply Hk $$ H

/-- The result row on its way out. -/
def outBusy (w : Vec F S1x1024 .f32) : sProp 𝕄 :=
  Transfers.Flight (countersEmb : UEmb Counters 𝕄) (c : Thread nD τ) (.dma outS) () NO iprop(rowO c w ∗ rowV c w)

theorem start_out {α : Type} {Q : α → sProp 𝕄} (w' w : Vec F S1x1024 .f32) {hsrc : vM.view.WordExact} {hdst : oM.view.WordExact}
    {hsem : DmaTarget.Typed (nD := nD) (τ := τ) (p := (.tc : Proc τ)) .vmem (.dma outS) (.here oM)} {kk : PUnit → Prog (TpuEff nD τ sig (Elt F) Λ₀ .tc) α} :
    iprop(rowV c w ∗ rowO c w' ∗ semVal ((c : Thread nD τ), .dma outS) 0)
      ⊢ iprop((outBusy c w -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma vM (.here oM) (.dma outS) hsrc hdst hsem) kk) Q) := by
  unfold rowV rowO outBusy
  iintro ⟨HV, HW, Hz⟩ Hk
  iapply (Transfers.wp_dmaLocal (countersEmb : UEmb Counters 𝕄) 𝒱₀ (c : Thread nD τ) none () NO rfl NO_pos (Finset.Subset.refl _)) $$ [HV HW Hz]
  · isplitl [HV]; · iexact HV
    isplitl [HW] <;> iassumption
  iintro Hf
  iapply Hk
  iapply (Transfers.Flight_mono (countersEmb : UEmb Counters 𝕄) (c : Thread nD τ) ?_) $$ Hf
  unfold rowO rowV
  iintro ⟨Hd, Hs⟩
  isplitl [Hd]
  · iapply (Entails.of_eq (pointsTo_congr (fun i _ => congrFun (landed_row w' w) i))) $$ Hd
  · iexact Hs

theorem wait_out {α : Type} {Q : α → sProp 𝕄} (w : Vec F S1x1024 .f32) {hsrc : vM.view.WordExact} {hdst : oM.view.WordExact}
    {kk : PUnit → Prog (TpuEff nD τ sig (Elt F) Λ₀ .tc) α} :
    iprop(outBusy c w ∗ owing c 0)
      ⊢ iprop((iprop((rowO c w ∗ rowV c w) ∗ semVal ((c : Thread nD τ), .dma outS) 0 ∗ owing c 0)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 outS vM oM hsrc hdst) kk) Q) := by
  unfold outBusy owing
  iintro ⟨Hf, ⟨%W, HO⟩⟩ Hk
  iapply (Transfers.wp_waitLocal (countersEmb : UEmb Counters 𝕄) 𝒱₀ (c : Thread nD τ) none () rfl) $$ [Hf HO]
  · isplitl [Hf]; · iexact Hf
    iexact HO
  iintro ⟨HD, Hz, HO⟩
  iapply Hk
  isplitl [HD]; · iexact HD
  isplitl [Hz]; · iexact Hz
  iexists _; iexact HO

/-- The other two arrivals are added and the result is written out. -/
theorem run_part10 (v196 : BitVec 32) (v244 : FVec F S1x1024 .f32) (Kt : _ → sProp 𝕄) :
    iprop((records m K ∗ owing c 0 ∗ cred (tallyAt (recvCell c 2) () N) ∗ atPos ER (recvCell c 2) 0 ∅ 0
            ∗ cred (tallyAt (sendCell c 1) () N) ∗ atPos ER (sendCell c 1) 0 ∅ 0 ∗ cred (tallyAt (recvCell c 1) () N) ∗ atPos ER (recvCell c 1) 0 ∅ 0
            ∗ (∃ w, rowV c w) ∗ (∃ w, rowO c w) ∗ semVal ((c : Thread nD τ), .dma outS) 0)
        ∗ ((owing c 0 ∗ semVal (recvCell c 2) 0 ∗ sumPts c 2 fullShare (part (xOf m (fwd 0 c))) ∗ semVal (sendCell c 1) 0 ∗ sumTok m c 1
            ∗ semVal (recvCell c 1) 0 ∗ sumPts c 1 fullShare (part (xOf m (fwd 1 c)))
            ∗ (∃ w, rowV c w) ∗ rowO c (k0_pay9 v244 (part (xOf m (fwd 0 c))) (part (xOf m (fwd 1 c)))) ∗ semVal ((c : Thread nD τ), .dma outS) 0)
          -∗ Kt ⟨⟩))
      ⊢ wp frame (wpE (defs₀ (F := F)) 𝒱₀ (c : Thread nD τ) none) Set.univ
          (k0_part10 (F := F) xM (Memref.isWhole_whole _) oM (Memref.isWhole_whole _) bM (Memref.isWhole_whole _) sM (Memref.isWhole_whole _)
            vM (Memref.isWhole_whole _) cc0_scratch3 cc0_scratch4 cc0_scratch5 cc0_scratch6 v196 v244) Kt := by
  rw [k0_part10_eq_skeleton]; unfold k0_part10_skel
  simp only [Prog.lift, Prog.bind_op, Prog.bind_ret, Prog.pure_eq_ret]
  iintro ⟨⟨#HR, HO, Hd2, Hb2, Hc1, Ha1, Hd1, Hb1, ⟨%wv, HV⟩, ⟨%wo, HW⟩, Hz⟩, Hk⟩
  iapply (wait_recv m K c 2) $$ [HO Hd2 Hb2]
  · isplitr; · iexact HR
    isplitl [Hd2]; · iexact Hd2
    isplitl [HO] <;> iassumption
  iintro ⟨HO, Hw2, Hp2⟩
  iapply (read_sum c 2 (part (xOf m (fwd 0 c)))) $$ [Hp2]
  · iexact Hp2
  iintro Hp2
  iapply (wait_send m K c 1) $$ [HO Hc1 Ha1]
  · isplitr; · iexact HR
    isplitl [Hc1]; · iexact Hc1
    isplitl [HO] <;> iassumption
  iintro ⟨HO, Hv1, Hs1⟩
  iapply (wait_recv m K c 1) $$ [HO Hd1 Hb1]
  · isplitr; · iexact HR
    isplitl [Hd1]; · iexact Hd1
    isplitl [HO] <;> iassumption
  iintro ⟨HO, Hw1, Hp1⟩
  iapply (read_sum c 1 (part (xOf m (fwd 1 c)))) $$ [Hp1]
  · iexact Hp1
  iintro Hp1
  unfold rowV
  iapply (wp_load 𝒱₀ (c : Thread nD τ) none Set.univ (m := vM) (r := rowRect.toLoadRect) (S := vM.view.set)
    (by rw [View.set_whole]; exact Finset.subset_univ _)) $$ HV
  iintro HV
  iapply (store_row c wv _) $$ [HV]
  · unfold rowV; iexact HV
  iintro HV
  iapply (start_out c wo _) $$ [HV HW Hz]
  · isplitl [HV]; · iexact HV
    isplitl [HW] <;> iassumption
  iintro Hf
  iapply (wait_out c _) $$ [Hf HO]
  · isplitl [Hf] <;> iassumption
  iintro ⟨⟨HW, HV⟩, Hz, HO⟩
  rw [wp_ret]; imodintro
  iapply Hk
  isplitl [HO]; · iexact HO
  isplitl [Hw2]; · iexact Hw2
  isplitl [Hp2]; · iexact Hp2
  isplitl [Hv1]; · iexact Hv1
  isplitl [Hs1]; · iexact Hs1
  isplitl [Hw1]; · iexact Hw1
  isplitl [Hp1]; · iexact Hp1
  isplitl [HV]; · unfold rowV; iexists _; iexact HV
  isplitl [HW]; · iexact HW
  iexact Hz

end Cert.SumProof

end
-- ==== Proof.Holdings.lean ====
/-
  What a device holds at the start, cut into the pieces its steps use, and put together again at the end.
-/
module

public import proofs.«01_k».proof.Proof.BodyMeet

@[expose] public section

noncomputable section

namespace Cert.SumProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem bigSep_fin3 (Φ : Fin 3 → sProp 𝕄) : bigSep Finset.univ Φ = iprop(Φ 0 ∗ Φ 1 ∗ Φ 2) :=
  bigSep_univ_eq_bigSepL [0, 1, 2] (by decide) (by decide) Φ
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem bigSep_cells (Φ : CellIx → sProp 𝕄) : bigSep Finset.univ Φ
    = iprop(Φ none ∗ Φ (some (false, 0)) ∗ Φ (some (false, 1)) ∗ Φ (some (false, 2)) ∗ Φ (some (true, 0)) ∗ Φ (some (true, 1)) ∗ Φ (some (true, 2))) :=
  bigSep_univ_eq_bigSepL allIx (by decide) (by decide) Φ

variable (c : Dev nD)

/-- The block of `x`, at share `q`. -/
def xPts (q : PosShare TreeShare) : sProp 𝕄 := ((c : Thread nD τ).loc main_arg0) ↦{q} (xOf m c)

/-- One share of the block for each of the eight copies; the rest stays behind, to be read at the end. -/
theorem x_shares : xPts m c fullShare ⊢ iprop(xPts m c (Transfers.shareDrop fullShare 8) ∗ rowTok m c 0 ∗ rowTok m c 1 ∗ rowTok m c 2 ∗ rowTok m c 3
    ∗ rowTok m c 4 ∗ rowTok m c 5 ∗ rowTok m c 6 ∗ rowTok m c 7) := by
  have hrow : ∀ j ∈ (Finset.univ : Finset (Fin 8)),
      (((c : Thread nD τ).loc main_arg0) ↦{Transfers.shareTok fullShare 8 j} (xOf m c) : sProp 𝕄) ⊢ rowTok m c j := fun j _ => by
    unfold rowTok
    iintro H
    ihave H := (pointsTo_split_subset (I := (rowsM j).view.set) (Finset.subset_univ _)).1 $$ H
    icases H with ⟨H, -⟩
    iexact H
  unfold xPts
  iintro H
  ihave H := (Transfers.pointsTo_toks_split fullShare 8) $$ H
  icases H with ⟨Hd, Ht⟩
  ihave Ht := (show _ ⊢ bigSep Finset.univ (rowTok m c) from bigSep_mono hrow) $$ Ht
  ihave Ht := (Entails.of_eq (bigSep_fin8 (rowTok m c))) $$ Ht
  isplitl [Hd]; · iexact Hd
  iexact Ht

/-- A scratch buffer, at whatever contents. -/
abbrev whole (b : Ref sig .tc) : sProp 𝕄 :=
  iprop(∃ f : Buf (Elt F) ((c : Thread nD τ).loc b), ((c : Thread nD τ).loc b) ↦{fullShare} f)

theorem buf_slots : whole c cc0_scratch0 ⊢ (iprop(bufFree c 0 ∗ bufFree c 1 ∗ bufFree c 2 ∗ bufFree c 3) : sProp 𝕄) := by
  rw [← bigSep_fin4 (fun k => bufFree c k)]
  iintro ⟨%f, H⟩
  ihave H := (Entails.of_eq (Ring.pointsTo_blocks (fun k : Fin 4 => (bufM k).view.set) bufM_disjoint bufM_cover f)) $$ H
  have h : ∀ k ∈ (Finset.univ : Finset (Fin 4)), (((c : Thread nD τ).loc cc0_scratch0) ↦[(bufM k).view.set]{fullShare} f : sProp 𝕄) ⊢ bufFree c k :=
    fun k _ => by unfold bufFree; iintro H; iexists f; iexact H
  iapply (show _ ⊢ bigSep Finset.univ (fun k => bufFree c k) from bigSep_mono h) $$ H

theorem buf_whole : (iprop(bufFree c 0 ∗ bufFree c 1 ∗ bufFree c 2 ∗ bufFree c 3) : sProp 𝕄) ⊢ whole c cc0_scratch0 := by
  rw [← bigSep_fin4 (fun k => bufFree c k)]
  exact Ring.pointsTo_blocks_join_exists (fun k : Fin 4 => (bufM k).view.set) bufM_disjoint bufM_cover (ℓ := (c : Thread nD τ).loc cc0_scratch0)
    (fun _ => Classical.arbitrary _)

theorem sum_slots : whole c cc0_scratch1 ⊢ (iprop(sumFree c 0 ∗ sumFree c 1 ∗ sumFree c 2 ∗ sumFree c 3) : sProp 𝕄) := by
  rw [← bigSep_fin4 (fun k => sumFree c k)]
  iintro ⟨%f, H⟩
  ihave H := (Entails.of_eq (Ring.pointsTo_blocks (fun k : Fin 4 => (sumM k).view.set) sumM_disjoint sumM_cover f)) $$ H
  have h : ∀ k ∈ (Finset.univ : Finset (Fin 4)), (((c : Thread nD τ).loc cc0_scratch1) ↦[(sumM k).view.set]{fullShare} f : sProp 𝕄) ⊢ sumFree c k :=
    fun k _ => by unfold sumFree; iintro H; iexists f; iexact H
  iapply (show _ ⊢ bigSep Finset.univ (fun k => sumFree c k) from bigSep_mono h) $$ H

theorem sum_whole : (iprop(sumFree c 0 ∗ sumFree c 1 ∗ sumFree c 2 ∗ sumFree c 3) : sProp 𝕄) ⊢ whole c cc0_scratch1 := by
  rw [← bigSep_fin4 (fun k => sumFree c k)]
  exact Ring.pointsTo_blocks_join_exists (fun k : Fin 4 => (sumM k).view.set) sumM_disjoint sumM_cover (ℓ := (c : Thread nD τ).loc cc0_scratch1)
    (fun _ => Classical.arbitrary _)

theorem sumPts_free (k : Fin 4) (w : Vec F S1x1x1024 .f32) : sumPts c k fullShare w ⊢ (sumFree c k : sProp 𝕄) := by
  unfold sumPts sumFree; iintro H; iexists _; iexact H

/-- What is left of the sum once its three shares are out. -/
def sumLeft : sProp 𝕄 := sumPts c 3 (Transfers.shareDrop fullShare 3) (part (xOf m c))

theorem sum_shares : sumPts c 3 fullShare (part (xOf m c)) ⊢ (iprop(sumLeft m c ∗ sumTok m c 0 ∗ sumTok m c 1 ∗ sumTok m c 2) : sProp 𝕄) := by
  rw [← bigSep_fin3 (fun k => sumTok m c k)]
  unfold sumLeft sumPts
  exact Transfers.pointsTo_toks_split fullShare 3

theorem sum_joined : (iprop(sumLeft m c ∗ sumTok m c 0 ∗ sumTok m c 1 ∗ sumTok m c 2) : sProp 𝕄) ⊢ sumFree c 3 := by
  refine BIBase.Entails.trans ?_ (sumPts_free c 3 (part (xOf m c)))
  rw [← bigSep_fin3 (fun k => sumTok m c k)]
  unfold sumLeft sumPts
  exact Transfers.pointsTo_toks_join fullShare 3

/-! ## What the launch deals a device, and what the device ends with -/

/-- The semaphores only the device itself uses. -/
def localSems : sProp 𝕄 :=
  iprop(semVal ((c : Thread nD τ), .dma (copyS 0)) 0 ∗ semVal ((c : Thread nD τ), .dma (copyS 1)) 0 ∗ semVal ((c : Thread nD τ), .dma (copyS 2)) 0
    ∗ semVal ((c : Thread nD τ), .dma (copyS 3)) 0 ∗ semVal ((c : Thread nD τ), .dma outS) 0)

/-- Where the device is on each shared semaphore of its own. -/
def places : sProp 𝕄 := bigSep Finset.univ fun k : CellIx => (atPos ER (kcell (c, k)) 0 ∅ 0 : sProp 𝕄)
/-- The duties the device discharges: a unit to each other device, and each sending. -/
def pays : sProp 𝕄 := bigSep Finset.univ fun k : Fin 3 =>
  (iprop(dutyTok ER (barCell (fwd k c)) 0 k ∗ dutyTok ER (recvCell (fwd k c) k) 0 0 ∗ dutyTok ER (sendCell c k) 0 0) : sProp 𝕄)
/-- What the others owe the device. -/
def creds : sProp 𝕄 :=
  iprop(cred (tallyAt (barCell c) () 3) ∗ bigSep Finset.univ fun k : Fin 3 => (cred (tallyAt (recvCell c k) () N) : sProp 𝕄))

def ghost (K : Dev nD × CellIx → ℕ) : sProp 𝕄 := iprop(records m K ∗ localSems c ∗ places c ∗ pays c)

/-- What the device starts with, what it owes apart. -/
def startOf : sProp 𝕄 := iprop((∃ K, ghost m c K) ∗ creds c ∗ levAts L lv ∗ xPts m c fullShare ∗ ∃ w, rowO c w)

def heldBefore : sProp 𝕄 := iprop(startOf m c ∗ whole c cc0_scratch0 ∗ whole c cc0_scratch1 ∗ whole c cc0_scratch2)

/-- What the device keeps for the end of the run: the block as it was and the result. -/
def kept : sProp 𝕄 := iprop(xPts m c (Transfers.shareDrop fullShare 8) ∗ rowO c (resOf m c) ∗ semVal (barCell c) 0)

/-- The semaphores of every sending and arrival, at zero. -/
def xferSems : sProp 𝕄 :=
  iprop((semVal (sendCell c 0) 0 ∗ semVal (sendCell c 1) 0 ∗ semVal (sendCell c 2) 0) ∗ (semVal (recvCell c 0) 0 ∗ semVal (recvCell c 1) 0 ∗ semVal (recvCell c 2) 0))

def heldAfter : sProp 𝕄 := iprop(kept m c ∗ (localSems c ∗ xferSems c) ∗ whole c cc0_scratch0 ∗ whole c cc0_scratch1 ∗ whole c cc0_scratch2)

end Cert.SumProof

end
-- ==== Proof.Dealing.lean ====
/-
  How the launch deals the shared semaphores, their records and their duties to the four devices.
-/
module

public import proofs.«01_k».proof.Proof.Holdings

@[expose] public section

noncomputable section

namespace Cert.SumProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The cells and the tokens minted for them -/

theorem kcell_injective : Function.Injective (kcell : Dev nD × CellIx → GSem nD τ sig) := by
  rintro ⟨c, k⟩ ⟨c', k'⟩ h
  obtain rfl : c = c' := congrArg (fun g : GSem nD τ sig => g.1.1) h
  obtain rfl : k = k' := csem_injective (congrArg Prod.snd h)
  rfl

def ringCells : Finset (GSem nD τ sig) := Finset.univ.map ⟨kcell, kcell_injective⟩

/-- The duties on a device's own cells: for each `k`, the barrier's duty `k`, the arrival `k` and the sending `k`. -/
def tokOf (x : Dev nD × Fin 3 × Fin 3) : GSem nD τ sig × ℕ × Fin 3 :=
  match x.2.2 with
  | 0 => (barCell x.1, 0, x.2.1)
  | 1 => (recvCell x.1 x.2.1, 0, 0)
  | 2 => (sendCell x.1 x.2.1, 0, 0)

theorem tokOf_key (k w k' w' : Fin 3)
    (h : ((match w with | 0 => ((none : CellIx), k) | 1 => (some (true, k), 0) | 2 => (some (false, k), 0)) : CellIx × Fin 3)
      = (match w' with | 0 => ((none : CellIx), k') | 1 => (some (true, k'), 0) | 2 => (some (false, k'), 0))) : k = k' ∧ w = w' := by
  revert k w k' w'; decide

theorem tokOf_injective : Function.Injective tokOf := by
  have e : ∀ x : Dev nD × Fin 3 × Fin 3, tokOf x
      = (kcell (x.1, ((match x.2.2 with | 0 => ((none : CellIx), x.2.1) | 1 => (some (true, x.2.1), 0) | 2 => (some (false, x.2.1), 0)) : CellIx × Fin 3).1), 0,
          ((match x.2.2 with | 0 => ((none : CellIx), x.2.1) | 1 => (some (true, x.2.1), 0) | 2 => (some (false, x.2.1), 0)) : CellIx × Fin 3).2) := by
    rintro ⟨c, k, w⟩; fin_cases w <;> rfl
  intro x y h
  rw [e x, e y] at h
  have h1 := kcell_injective (congrArg Prod.fst h)
  have h2 := tokOf_key x.2.1 x.2.2 y.2.1 y.2.2 (Prod.ext (congrArg Prod.snd h1) (congrArg (fun p => p.2.2) h))
  have h3 : x.1 = y.1 := (Prod.mk.inj h1).1
  exact Prod.ext h3 (Prod.ext h2.1 h2.2)

def ringToks : Finset (GSem nD τ sig × ℕ × Fin 3) := Finset.univ.map ⟨tokOf, tokOf_injective⟩

def u₀ : UU :=
  (initOf (Pipeline.cells cfgs cellOf_inj) (Pipeline.launchToks cfgs cellOf_inj), (initOf ringCells ringToks, 1))

theorem ownU_split (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- The tokens of the duties on device `c`'s own cells. -/
def toks (c : Dev nD) : sProp 𝕄 := bigSep Finset.univ fun k : Fin 3 =>
  (iprop(dutyTok ER (barCell c) 0 k ∗ dutyTok ER (recvCell c k) 0 0 ∗ dutyTok ER (sendCell c k) 0 0) : sProp 𝕄)

/-- What is minted for device `c`. -/
def dealt (c : Dev nD) : sProp 𝕄 :=
  iprop((bigSep Finset.univ fun k : CellIx => (roundState ER (ringRd m) (kcell (c, k)) 0 : sProp 𝕄))
    ∗ (bigSep Finset.univ fun k : CellIx => (iprop(atPos ER (kcell (c, k)) 0 ∅ 0 ∗ reached ER (kcell (c, k)) 0) : sProp 𝕄)) ∗ toks c)

theorem fund_ring : BI.own (ER (initOf ringCells ringToks)) ⊢ (|==> bigSep Finset.univ (dealt m) : sProp 𝕄) := by
  have hX (Φ : GSem nD τ sig → sProp 𝕄) : bigSep ringCells Φ = bigSep Finset.univ fun c : Dev nD => bigSep Finset.univ fun k : CellIx => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    unfold toks
    rw [bigSep_univ_prod]
    exact bigSep_congr fun k _ => by rw [bigSep_fin3]; rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt; simp only [bigSep_sep']
  isplitl [Hst']; · iexact Hst'
  isplitl [Hat' Hr']
  · isplitl [Hat'] <;> iassumption
  iexact Htok'

/-! ## The semaphores at zero -/

/-- The kernel's own semaphores: the four of the copies, the result's, the sendings' and the arrivals'. -/
abbrev osem : Fin 11 → SemLoc sig := fun
  | 0 => .dma (copyS 0) | 1 => .dma (copyS 1) | 2 => .dma (copyS 2) | 3 => .dma (copyS 3) | 4 => .dma outS
  | 5 => .dma (sendS 0) | 6 => .dma (sendS 1) | 7 => .dma (sendS 2) | 8 => .dma (recvS 0) | 9 => .dma (recvS 1) | 10 => .dma (recvS 2)

theorem ownSemFacts : Pipeline.OwnSemFacts cfg0.spec osem := by decide

abbrev ownSems (c : Dev nD) : sProp 𝕄 := Pipeline.ownSems0 (Ix := Unit) (Name := ℕ) (U := UU) (Lvl := ℕ) (Val := Elt F) (τ := τ) osem c

theorem ownSems_list (c : Dev nD) : (ownSems c : sProp 𝕄)
    = bigSepL [0, 1, 2, 3, 4, 5, 6, 7, 8, 9, 10] fun i : Fin 11 => semVal ((c : Thread nD τ), osem i) 0 :=
  Pipeline.ownSems0_eq_of_list c osem [0, 1, 2, 3, 4, 5, 6, 7, 8, 9, 10] (by decide) (by decide)

theorem ownSems_out (c : Dev nD) : (ownSems c : sProp 𝕄) ⊢ iprop(localSems c ∗ xferSems c) := by
  rw [ownSems_list]
  unfold localSems xferSems
  show iprop(semVal ((c : Thread nD τ), .dma (copyS 0)) 0 ∗ semVal ((c : Thread nD τ), .dma (copyS 1)) 0 ∗ semVal ((c : Thread nD τ), .dma (copyS 2)) 0
    ∗ semVal ((c : Thread nD τ), .dma (copyS 3)) 0 ∗ semVal ((c : Thread nD τ), .dma outS) 0 ∗ semVal (sendCell c 0) 0 ∗ semVal (sendCell c 1) 0 ∗ semVal (sendCell c 2) 0
    ∗ semVal (recvCell c 0) 0 ∗ semVal (recvCell c 1) 0 ∗ semVal (recvCell c 2) 0) ⊢ _
  iintro ⟨H0, H1, H2, H3, H4, S0, S1, S2, R0, R1, R2⟩
  isplitl [H0 H1 H2 H3 H4]
  · isplitl [H0]; · iexact H0
    isplitl [H1]; · iexact H1
    isplitl [H2]; · iexact H2
    isplitl [H3]; · iexact H3
    iexact H4
  isplitl [S0 S1 S2]
  · isplitl [S0]; · iexact S0
    isplitl [S1]; · iexact S1
    iexact S2
  isplitl [R0]; · iexact R0
  isplitl [R1]; · iexact R1
  iexact R2

theorem ownSems_in (c : Dev nD) : iprop(localSems c ∗ xferSems c) ⊢ (ownSems c : sProp 𝕄) := by
  rw [ownSems_list]
  unfold localSems xferSems
  show _ ⊢ iprop(semVal ((c : Thread nD τ), .dma (copyS 0)) 0 ∗ semVal ((c : Thread nD τ), .dma (copyS 1)) 0 ∗ semVal ((c : Thread nD τ), .dma (copyS 2)) 0
    ∗ semVal ((c : Thread nD τ), .dma (copyS 3)) 0 ∗ semVal ((c : Thread nD τ), .dma outS) 0 ∗ semVal (sendCell c 0) 0 ∗ semVal (sendCell c 1) 0 ∗ semVal (sendCell c 2) 0
    ∗ semVal (recvCell c 0) 0 ∗ semVal (recvCell c 1) 0 ∗ semVal (recvCell c 2) 0)
  iintro ⟨⟨H0, H1, H2, H3, H4⟩, ⟨S0, S1, S2⟩, R0, R1, R2⟩
  isplitl [H0]; · iexact H0
  isplitl [H1]; · iexact H1
  isplitl [H2]; · iexact H2
  isplitl [H3]; · iexact H3
  isplitl [H4]; · iexact H4
  isplitl [S0]; · iexact S0
  isplitl [S1]; · iexact S1
  isplitl [S2]; · iexact S2
  isplitl [R0]; · iexact R0
  isplitl [R1]; · iexact R1
  iexact R2

/-- The barrier's semaphore is the launch's. -/
theorem unscopedSems_eq (c : Dev nD) : (unscopedSems0 c : sProp 𝕄) = semVal (barCell c) 0 := by
  unfold unscopedSems0; rw [bigSep_eq_bigSepL_of_eq [SemLoc.reg barS] (by decide) (by decide)]; rfl

theorem shared_sems (c : Dev nD) : iprop(xferSems c ∗ unscopedSems0 c) ⊢ (bigSep Finset.univ fun k : CellIx => semVal (kcell (c, k)) 0 : sProp 𝕄) := by
  rw [unscopedSems_eq, bigSep_cells]
  unfold xferSems
  iintro ⟨⟨⟨S0, S1, S2⟩, R0, R1, R2⟩, HB⟩
  isplitl [HB]; · iexact HB
  isplitl [S0]; · iexact S0
  isplitl [S1]; · iexact S1
  isplitl [S2]; · iexact S2
  isplitl [R0]; · iexact R0
  isplitl [R1]; · iexact R1
  iexact R2

/-! ## From what is minted to what each device is dealt -/

/-- Each device's semaphores put under their records. -/
theorem core_alloc (c : Dev nD) :
    iprop(ownSems c ∗ unscopedSems0 c ∗ dealt m c)
      ⊢ (|={Set.univ}=> iprop((bigSep Finset.univ fun k : CellIx => (iprop(∃ κ : ℕ, cellInv ER (ringRd m) κ (kcell (c, k))) : sProp 𝕄))
          ∗ (bigSep Finset.univ fun k : CellIx => (iprop(atPos ER (kcell (c, k)) 0 ∅ 0 ∗ reached ER (kcell (c, k)) 0) : sProp 𝕄)) ∗ toks c ∗ localSems c) : sProp 𝕄) := by
  unfold dealt
  iintro ⟨Hos, Hus, Hst, Hat, Htok⟩
  ihave Ho := (ownSems_out c) $$ Hos
  icases Ho with ⟨Hl, Hx⟩
  ihave Hv := (shared_sems (F := F) c) $$ [Hx Hus]
  · isplitl [Hx] <;> iassumption
  imod (show iprop((bigSep Finset.univ fun k : CellIx => semVal (kcell (c, k)) 0) ∗ bigSep Finset.univ fun k : CellIx => roundState ER (ringRd m) (kcell (c, k)) 0)
      ⊢ (|={Set.univ}=> bigSep Finset.univ fun k : CellIx => (iprop(∃ κ : ℕ, cellInv ER (ringRd m) κ (kcell (c, k))) : sProp 𝕄) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-- The tokens handed round: each to the device that discharges the duty. -/
theorem toks_around : (bigSep Finset.univ fun c : Dev nD => (toks c : sProp 𝕄)) ⊢ bigSep Finset.univ fun c : Dev nD => pays c := by
  have swap : ∀ Φ : Dev nD → Fin 3 → sProp 𝕄, (bigSep Finset.univ fun c => bigSep Finset.univ fun k => Φ c k)
      = bigSep Finset.univ fun k => bigSep Finset.univ fun c => Φ c k := fun Φ => by
    rw [bigSep_fin3, ← bigSep_sep', ← bigSep_sep']
    exact bigSep_congr fun c _ => bigSep_fin3 (Φ c)
  unfold toks pays
  rw [swap, swap]
  refine bigSep_mono fun k _ => ?_
  rw [bigSep_sep', bigSep_sep', bigSep_sep', bigSep_sep',
    bigSep_univ_equiv (turn k) (fun c : Dev nD => (dutyTok ER (barCell c) 0 k : sProp 𝕄)),
    bigSep_univ_equiv (turn k) (fun c : Dev nD => (dutyTok ER (recvCell c k) 0 0 : sProp 𝕄))]
  exact BI.Entails.refl _

theorem with_records {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- What the launch's first step makes of it: each device its records, its own semaphores, its places and its duties. -/
def share (c : Dev nD) : sProp 𝕄 := iprop(∃ K, ghost m c K)

theorem regroup :
    (bigSep Finset.univ fun c : Dev nD => (iprop((bigSep Finset.univ fun k : CellIx => (iprop(∃ κ : ℕ, cellInv ER (ringRd m) κ (kcell (c, k))) : sProp 𝕄))
          ∗ (bigSep Finset.univ fun k : CellIx => (iprop(atPos ER (kcell (c, k)) 0 ∅ 0 ∗ reached ER (kcell (c, k)) 0) : sProp 𝕄)) ∗ toks c ∗ localSems c) : sProp 𝕄))
      ⊢ bigSep Finset.univ (share m) := by
  rw [bigSep_sep', bigSep_sep', bigSep_sep', ← bigSep_univ_prod (fun ck : Dev nD × CellIx => (iprop(∃ κ : ℕ, cellInv ER (ringRd m) κ (kcell ck)) : sProp 𝕄)),
    bigSep_congr (s := Finset.univ) (fun (c : Dev nD) _ => bigSep_sep' Finset.univ (fun k : CellIx => (atPos ER (kcell (c, k)) 0 ∅ 0 : sProp 𝕄)) (fun k => reached ER (kcell (c, k)) 0)),
    bigSep_sep', ← bigSep_univ_prod (fun ck : Dev nD × CellIx => (reached ER (kcell ck) 0 : sProp 𝕄))]
  iintro ⟨HI, ⟨Hat, #HR⟩, Htok, Hl⟩
  ihave HK := (BI.bigSep_exists_pi Finset.univ (fun (ck : Dev nD × CellIx) (κ : ℕ) => (cellInv ER (ringRd m) κ (kcell ck) : sProp 𝕄))) $$ HI
  icases HK with ⟨%K, #HI⟩
  ihave Htk := (toks_around (F := F)) $$ Htok
  iapply (with_records (R := records m K) (S := (Finset.univ : Finset (Dev nD))) (Φ := fun c => iprop(localSems c ∗ places c ∗ pays c)) (Ψ := share m)
    fun c _ => by unfold share ghost; iintro H; iexists K; iexact H)
  isplitr
  · unfold records; isplitl; · iexact HI
    iexact HR
  · rw [bigSep_sep', bigSep_sep']
    isplitl [Hl]; · iexact Hl
    isplitl [Hat]; · unfold places; iexact Hat
    iexact Htk

theorem glob : (bigSep Finset.univ fun c => iprop(ownSems c ∗ unscopedSems0 c ∗ dealt m c) : sProp 𝕄) ⊢ |={Set.univ}=> bigSep Finset.univ (share m) :=
  ((bigSep_mono fun c _ => core_alloc m c).trans (bigSep_fupd _ _)).trans (BI.fupd_mono (regroup m))

/-! ## What the others owe a device -/

theorem owed_at (O : CellTallies nD τ sig Unit) (g g' : GSem nD τ sig) (n : ℕ) :
    (O + tallyAt g () n) g' () = O g' () + if g' = g then n else 0 := by
  rw [Pi.add_apply, Finsupp.add_apply, tallyAt_apply]
  by_cases h : g' = g
  · rw [if_pos ⟨h, rfl⟩, if_pos h]
  · rw [if_neg fun e => h e.1, if_neg h]

theorem kcell_eq_iff (c c' : Dev nD) (k k' : CellIx) : kcell (c, k) = kcell (c', k') ↔ c = c' ∧ k = k' :=
  ⟨fun h => Prod.mk.inj (kcell_injective h), fun h => by rw [h.1, h.2]⟩

theorem owed_kcell (d c : Dev nD) (k : CellIx) : O₀ d (kcell (c, k)) ()
    = ((((((0 + if c = fwd 2 d ∧ k = some (true, 2) then N else 0) + if c = fwd 1 d ∧ k = some (true, 1) then N else 0)
      + if c = fwd 0 d ∧ k = some (true, 0) then N else 0) + if c = fwd 2 d ∧ k = none then 1 else 0)
      + if c = fwd 1 d ∧ k = none then 1 else 0) + if c = fwd 0 d ∧ k = none then 1 else 0) := by
  unfold O₀ owedB1 owedB2 owed0 owed1 owed2 owed3
  simp only [owed_at, kcell_eq_iff]
  rfl

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_kcell d c none]
  revert c; decide

theorem fwd_iff (k : Fin 3) (c d : Dev nD) : c = fwd k d ↔ d = fwd k.rev c := by revert k c d; decide

theorem owed_recv (d c : Dev nD) (k : Fin 3) : O₀ d (recvCell c k) () = if d = fwd k.rev c then N else 0 := by
  rw [owed_kcell, ← if_congr (fwd_iff k c d) rfl rfl]
  generalize N = n
  fin_cases k <;> simp

theorem launch_recv (c : Dev nD) (k : Fin 3) :
    tallyOn (recvCell c k) (launchCredit (Pipeline.owing O₀) 0 (recvCell c k)) = (tallyAt (recvCell c k) () N : CellTallies nD τ sig Unit) := by
  unfold tallyAt; refine congrArg _ (Finsupp.ext fun u => ?_); cases u
  rw [Pipeline.launchCredit_owing, Finsupp.single_eq_same, Finset.sum_congr rfl fun d _ => owed_recv d c k,
    Finset.sum_ite_eq' Finset.univ (fwd k.rev c) fun _ => N, if_pos (Finset.mem_univ _)]

theorem creds_intro (c : Dev nD) : (Pipeline.launchCred O₀ c : sProp 𝕄) ⊢ creds c := by
  unfold Pipeline.launchCred creds
  refine (bigSep_subset (Finset.subset_univ (Finset.univ.map ⟨csem, csem_injective⟩))).trans ?_
  rw [bigSep_map, bigSep_cells, bigSep_fin3]
  show iprop(cred (tallyOn (barCell c) (launchCredit (Pipeline.owing O₀) 0 (barCell c)))
    ∗ cred (tallyOn (sendCell c 0) (launchCredit (Pipeline.owing O₀) 0 (sendCell c 0))) ∗ cred (tallyOn (sendCell c 1) (launchCredit (Pipeline.owing O₀) 0 (sendCell c 1)))
    ∗ cred (tallyOn (sendCell c 2) (launchCredit (Pipeline.owing O₀) 0 (sendCell c 2)))
    ∗ cred (tallyOn (recvCell c 0) (launchCredit (Pipeline.owing O₀) 0 (recvCell c 0))) ∗ cred (tallyOn (recvCell c 1) (launchCredit (Pipeline.owing O₀) 0 (recvCell c 1)))
    ∗ cred (tallyOn (recvCell c 2) (launchCredit (Pipeline.owing O₀) 0 (recvCell c 2)))) ⊢ _
  rw [launch_bar, launch_recv, launch_recv, launch_recv]
  iintro ⟨HB, -, -, -, H0, H1, H2⟩
  isplitl [HB]; · iexact HB
  isplitl [H0]; · iexact H0
  isplitl [H1]; · iexact H1
  iexact H2

end Cert.SumProof

end
-- ==== Proof.BodyRows.lean ====
/-
  The kernel's rows, part by part: every copy of 512 rows is started, waited for and read, and the sums follow the reads.
-/
module

public import proofs.«01_k».proof.Proof.LocalSteps

@[expose] public section

noncomputable section

namespace Cert.SumProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (c : Dev nD)

/-- The first three copies are started. -/
theorem run_part1 (Kt : _ → sProp 𝕄) :
    iprop((rowTok m c 0 ∗ rowTok m c 1 ∗ rowTok m c 2 ∗ bufIdle c 0 ∗ bufIdle c 1 ∗ bufIdle c 2)
        ∗ (∀ (v2 v22 : BitVec 32) (v27 : BitVec 1) (v28 : BitVec 32), (bufBusy m c 0 0 ∗ bufBusy m c 1 1 ∗ bufBusy m c 2 2) -∗
            Kt ⟨c, v2, SemArray.scalar (sig.barrier 0 rfl), v22, v27, v28⟩))
      ⊢ wp frame (wpE (defs₀ (F := F)) 𝒱₀ (c : Thread nD τ) none) Set.univ
          (k0_part1 (F := F) xM (Memref.isWhole_whole _) oM (Memref.isWhole_whole _) bM (Memref.isWhole_whole _) sM (Memref.isWhole_whole _)
            vM (Memref.isWhole_whole _) cc0_scratch3 cc0_scratch4 cc0_scratch5 cc0_scratch6) Kt := by
  rw [k0_part1_eq_skeleton]; unfold k0_part1_skel
  simp only [Prog.lift, Prog.bind_op, Prog.bind_ret, Prog.pure_eq_ret, wp_deviceId]
  iintro ⟨⟨Hx0, Hx1, Hx2, Hb0, Hb1, Hb2⟩, Hk⟩
  iapply (start_copy m c 0 0) $$ [Hx0 Hb0]
  · isplitl [Hx0] <;> iassumption
  iintro Hb0
  iapply (start_copy m c 1 1) $$ [Hx1 Hb1]
  · isplitl [Hx1] <;> iassumption
  iintro Hb1
  iapply (start_copy m c 2 2) $$ [Hx2 Hb2]
  · isplitl [Hx2] <;> iassumption
  iintro Hb2
  rw [wp_ret]; imodintro
  iapply Hk
  isplitl [Hb0]; · iexact Hb0
  isplitl [Hb1] <;> iassumption

/-- Parts 0 and 1 are summed; copies 3 and 4 are started. -/
theorem run_part3 (Kt : _ → sProp 𝕄) :
    iprop((rowTok m c 3 ∗ rowTok m c 4 ∗ bufIdle c 3 ∗ bufBusy m c 0 0 ∗ bufBusy m c 1 1 ∗ owing c (owed0 c) ∗ levAts L lv)
        ∗ ((bufBusy m c 3 3 ∗ bufBusy m c 0 4 ∗ bufFull m c 1 1 ∗ owing c (owed0 c)) -∗
            Kt ⟨k0_pay1 (chunk (xOf m c) 0), k0_pay2 (chunk (xOf m c) 1)⟩))
      ⊢ wp frame (wpE (defs₀ (F := F)) 𝒱₀ (c : Thread nD τ) none) Set.univ
          (k0_part3 (F := F) xM (Memref.isWhole_whole _) oM (Memref.isWhole_whole _) bM (Memref.isWhole_whole _) sM (Memref.isWhole_whole _)
            vM (Memref.isWhole_whole _) cc0_scratch3 cc0_scratch4 cc0_scratch5 cc0_scratch6) Kt := by
  rw [k0_part3_eq_skeleton]; unfold k0_part3_skel
  simp only [Prog.lift, Prog.bind_op, Prog.bind_ret, Prog.pure_eq_ret]
  iintro ⟨⟨Hx3, Hx4, Hb3, Hb0, Hb1, HO, #Hlev⟩, Hk⟩
  iapply (start_copy m c 3 3) $$ [Hx3 Hb3]
  · isplitl [Hx3] <;> iassumption
  iintro Hb3
  iapply (wait_copy m c 0 0) $$ [Hb0 HO]
  · isplitl [Hb0]; · iexact Hb0
    isplitl [HO]; · iexact HO
    iexact Hlev
  iintro ⟨Hb0, HO⟩
  iapply (read_slot m c 0 0) $$ Hb0; iintro Hb0
  ihave Hb0 := (bufFull_idle m c 0 0) $$ Hb0
  iapply (start_copy m c 4 0) $$ [Hx4 Hb0]
  · isplitl [Hx4] <;> iassumption
  iintro Hb0
  iapply (wait_copy m c 1 1) $$ [Hb1 HO]
  · isplitl [Hb1]; · iexact Hb1
    isplitl [HO]; · iexact HO
    iexact Hlev
  iintro ⟨Hb1, HO⟩
  iapply (read_slot m c 1 1) $$ Hb1; iintro Hb1
  rw [wp_ret]; imodintro
  iapply Hk
  isplitl [Hb3]; · iexact Hb3
  isplitl [Hb0]; · iexact Hb0
  isplitl [Hb1] <;> iassumption

/-- Part 2 is added; copies 5 and 6 are started, copy 3 has come in. -/
theorem run_part4 (v71 : FVec F S1x1024 .f32) (v83 : FVec F S512x1024 .f32) (Kt : _ → sProp 𝕄) :
    iprop((rowTok m c 5 ∗ rowTok m c 6 ∗ bufFull m c 1 1 ∗ bufBusy m c 2 2 ∗ bufBusy m c 3 3 ∗ owing c (owed0 c) ∗ levAts L lv)
        ∗ ((bufBusy m c 1 5 ∗ bufBusy m c 2 6 ∗ bufFull m c 3 3 ∗ owing c (owed0 c)) -∗ Kt (k0_pay3 v71 v83 (chunk (xOf m c) 2))))
      ⊢ wp frame (wpE (defs₀ (F := F)) 𝒱₀ (c : Thread nD τ) none) Set.univ
          (k0_part4 (F := F) xM (Memref.isWhole_whole _) oM (Memref.isWhole_whole _) bM (Memref.isWhole_whole _) sM (Memref.isWhole_whole _)
            vM (Memref.isWhole_whole _) cc0_scratch3 cc0_scratch4 cc0_scratch5 cc0_scratch6 v71 v83) Kt := by
  rw [k0_part4_eq_skeleton]; unfold k0_part4_skel
  simp only [Prog.lift, Prog.bind_op, Prog.bind_ret, Prog.pure_eq_ret]
  iintro ⟨⟨Hx5, Hx6, Hb1, Hb2, Hb3, HO, #Hlev⟩, Hk⟩
  ihave Hb1 := (bufFull_idle m c 1 1) $$ Hb1
  iapply (start_copy m c 5 1) $$ [Hx5 Hb1]
  · isplitl [Hx5] <;> iassumption
  iintro Hb1
  iapply (wait_copy m c 2 2) $$ [Hb2 HO]
  · isplitl [Hb2]; · iexact Hb2
    isplitl [HO]; · iexact HO
    iexact Hlev
  iintro ⟨Hb2, HO⟩
  iapply (read_slot m c 2 2) $$ Hb2; iintro Hb2
  ihave Hb2 := (bufFull_idle m c 2 2) $$ Hb2
  iapply (start_copy m c 6 2) $$ [Hx6 Hb2]
  · isplitl [Hx6] <;> iassumption
  iintro Hb2
  iapply (wait_copy m c 3 3) $$ [Hb3 HO]
  · isplitl [Hb3]; · iexact Hb3
    isplitl [HO]; · iexact HO
    iexact Hlev
  iintro ⟨Hb3, HO⟩
  rw [wp_ret]; imodintro
  iapply Hk
  isplitl [Hb1]; · iexact Hb1
  isplitl [Hb2]; · iexact Hb2
  isplitl [Hb3] <;> iassumption

/-- Parts 3 and 4 are added, part 5 is read; copy 7 is started. -/
theorem run_part5 (v101 : FVec F S1x1024 .f32) (Kt : _ → sProp 𝕄) :
    iprop((rowTok m c 7 ∗ bufFull m c 3 3 ∗ bufBusy m c 0 4 ∗ bufBusy m c 1 5 ∗ owing c (owed0 c) ∗ levAts L lv)
        ∗ ((bufBusy m c 3 7 ∗ bufFull m c 0 4 ∗ bufFull m c 1 5 ∗ owing c (owed0 c)) -∗
            Kt ⟨k0_pay4 v101 (chunk (xOf m c) 3) (chunk (xOf m c) 4), k0_pay5 (chunk (xOf m c) 5)⟩))
      ⊢ wp frame (wpE (defs₀ (F := F)) 𝒱₀ (c : Thread nD τ) none) Set.univ
          (k0_part5 (F := F) xM (Memref.isWhole_whole _) oM (Memref.isWhole_whole _) bM (Memref.isWhole_whole _) sM (Memref.isWhole_whole _)
            vM (Memref.isWhole_whole _) cc0_scratch3 cc0_scratch4 cc0_scratch5 cc0_scratch6 v101) Kt := by
  rw [k0_part5_eq_skeleton]; unfold k0_part5_skel
  simp only [Prog.lift, Prog.bind_op, Prog.bind_ret, Prog.pure_eq_ret]
  iintro ⟨⟨Hx7, Hb3, Hb0, Hb1, HO, #Hlev⟩, Hk⟩
  iapply (read_slot m c 3 3) $$ Hb3; iintro Hb3
  ihave Hb3 := (bufFull_idle m c 3 3) $$ Hb3
  iapply (start_copy m c 7 3) $$ [Hx7 Hb3]
  · isplitl [Hx7] <;> iassumption
  iintro Hb3
  iapply (wait_copy m c 4 0) $$ [Hb0 HO]
  · isplitl [Hb0]; · iexact Hb0
    isplitl [HO]; · iexact HO
    iexact Hlev
  iintro ⟨Hb0, HO⟩
  iapply (read_slot m c 4 0) $$ Hb0; iintro Hb0
  iapply (wait_copy m c 5 1) $$ [Hb1 HO]
  · isplitl [Hb1]; · iexact Hb1
    isplitl [HO]; · iexact HO
    iexact Hlev
  iintro ⟨Hb1, HO⟩
  iapply (read_slot m c 5 1) $$ Hb1; iintro Hb1
  rw [wp_ret]; imodintro
  iapply Hk
  isplitl [Hb3]; · iexact Hb3
  isplitl [Hb0]; · iexact Hb0
  isplitl [Hb1] <;> iassumption

/-- Parts 6 and 7 are added, and the sum is left in the last slot of partial sums. -/
theorem run_part6 (v2 : BitVec 32) (v131 : FVec F S1x1024 .f32) (v138 : FVec F S512x1024 .f32) (Kt : _ → sProp 𝕄) :
    iprop((bufBusy m c 2 6 ∗ bufBusy m c 3 7 ∗ sumFree c 3 ∗ owing c (owed0 c) ∗ levAts L lv)
        ∗ (∀ (v167 v168 : BitVec 32), (bufFull m c 2 6 ∗ bufFull m c 3 7
              ∗ sumPts c 3 fullShare (k0_pay7 v131 v138 (chunk (xOf m c) 6) (chunk (xOf m c) 7)) ∗ owing c (owed0 c)) -∗
            Kt ⟨k0_pay6 v131 v138 (chunk (xOf m c) 6) (chunk (xOf m c) 7), v167, v168⟩))
      ⊢ wp frame (wpE (defs₀ (F := F)) 𝒱₀ (c : Thread nD τ) none) Set.univ
          (k0_part6 (F := F) xM (Memref.isWhole_whole _) oM (Memref.isWhole_whole _) bM (Memref.isWhole_whole _) sM (Memref.isWhole_whole _)
            vM (Memref.isWhole_whole _) cc0_scratch3 cc0_scratch4 cc0_scratch5 cc0_scratch6 v2 v131 v138) Kt := by
  rw [k0_part6_eq_skeleton]; unfold k0_part6_skel
  simp only [Prog.lift, Prog.bind_op, Prog.bind_ret, Prog.pure_eq_ret]
  iintro ⟨⟨Hb2, Hb3, Hs, HO, #Hlev⟩, Hk⟩
  iapply (wait_copy m c 6 2) $$ [Hb2 HO]
  · isplitl [Hb2]; · iexact Hb2
    isplitl [HO]; · iexact HO
    iexact Hlev
  iintro ⟨Hb2, HO⟩
  iapply (read_slot m c 6 2) $$ Hb2; iintro Hb2
  iapply (wait_copy m c 7 3) $$ [Hb3 HO]
  · isplitl [Hb3]; · iexact Hb3
    isplitl [HO]; · iexact HO
    iexact Hlev
  iintro ⟨Hb3, HO⟩
  iapply (read_slot m c 7 3) $$ Hb3; iintro Hb3
  unfold sumFree
  icases Hs with ⟨%f, Hs⟩
  iapply (wp_load 𝒱₀ (c : Thread nD τ) none Set.univ (m := sM) (r := (sumRect 3).toLoadRect)
    (S := (sumM 3).view.set) (by rw [sumM_set]; exact (Finset.map_refl (s := (sumRect 3).set)).subset)) $$ Hs
  iintro Hs
  iapply (wp_store 𝒱₀ (c : Thread nD τ) none Set.univ (m := sM) (r := sumRect 3) (Mk := Finset.univ)
    (S := (sumM 3).view.set) (by rw [sumM_set]; exact (View.set_slice_whole _ _).subset)) $$ Hs
  iintro Hs
  ihave Hs := (Entails.of_eq (pointsTo_congr (stored_sum 3 _ f))) $$ Hs
  rw [wp_ret]; imodintro
  iapply Hk
  isplitl [Hb2]; · iexact Hb2
  isplitl [Hb3]; · iexact Hb3
  isplitl [Hs]; · unfold sumPts; iexact Hs
  iexact HO

end Cert.SumProof

end
-- ==== Proof.Body.lean ====
/-
  The kernel's body on one device, from what the launch deals to what the device ends with.
-/
module

public import proofs.«01_k».proof.Proof.Holdings
public import proofs.«01_k».proof.Proof.BodyRows

@[expose] public section

noncomputable section

namespace Cert.SumProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (c : Dev nD)

/-- The body, part after part. -/
theorem run_body (Kt : PUnit → sProp 𝕄) :
    iprop((heldBefore m c ∗ owing c (O₀ c)) ∗ ((heldAfter m c ∗ owing c 0) -∗ Kt ⟨⟩))
      ⊢ wp frame (wpE (defs₀ (F := F)) 𝒱₀ (c : Thread nD τ) none) Set.univ
          (cc0_body (F := F) xM (Memref.isWhole_whole _) oM (Memref.isWhole_whole _) bM (Memref.isWhole_whole _) sM (Memref.isWhole_whole _)
            vM (Memref.isWhole_whole _) cc0_scratch3 cc0_scratch4 cc0_scratch5 cc0_scratch6) Kt := by
  rw [cc0_body_eq_skeleton]; unfold cc0_body_skel
  unfold heldBefore startOf ghost localSems places pays creds
  rw [bigSep_cells, bigSep_fin3, bigSep_fin3]
  iintro ⟨⟨⟨⟨⟨%K, #HR, ⟨Hz0, Hz1, Hz2, Hz3, Hzo⟩, ⟨Hab, Has0, Has1, Has2, Har0, Har1, Har2⟩,
      ⟨⟨Htb0, Htr0, Hts0⟩, ⟨Htb1, Htr1, Hts1⟩, ⟨Htb2, Htr2, Hts2⟩⟩⟩, ⟨Hcb, Hcr0, Hcr1, Hcr2⟩, #Hlev, Hx, HW⟩, Hbuf, Hsum, Hrow⟩, HO⟩, Hk⟩
  ihave Hx := (x_shares m c) $$ Hx
  icases Hx with ⟨Hx, Hx0, Hx1, Hx2, Hx3, Hx4, Hx5, Hx6, Hx7⟩
  ihave Hbuf := (buf_slots c) $$ Hbuf
  icases Hbuf with ⟨Hb0, Hb1, Hb2, Hb3⟩
  ihave Hsum := (sum_slots c) $$ Hsum
  icases Hsum with ⟨Hs0, Hs1, Hs2, Hs3⟩
  rw [wp_bind]
  iapply (run_part1 m c)
  isplitl [Hx0 Hx1 Hx2 Hb0 Hb1 Hb2 Hz0 Hz1 Hz2]
  · isplitl [Hx0]; · iexact Hx0
    isplitl [Hx1]; · iexact Hx1
    isplitl [Hx2]; · iexact Hx2
    unfold bufIdle
    isplitl [Hb0 Hz0]
    · isplitl [Hb0] <;> iassumption
    isplitl [Hb1 Hz1]
    · isplitl [Hb1] <;> iassumption
    isplitl [Hb2] <;> iassumption
  iintro %v2 %v22 %v27 %v28 ⟨Hb0, Hb1, Hb2⟩
  rw [wp_bind]
  iapply (run_part2 m K c)
  isplitl [HO Htb0 Htb1 Htb2 Hs0 Hs1 Hs2 Hcb Hab]
  · isplitr; · iexact HR
    isplitr; · iexact Hlev
    isplitl [HO]; · iexact HO
    isplitl [Htb0]; · iexact Htb0
    isplitl [Htb1]; · iexact Htb1
    isplitl [Htb2]; · iexact Htb2
    isplitl [Hs0]; · iexact Hs0
    isplitl [Hs1]; · iexact Hs1
    isplitl [Hs2]; · iexact Hs2
    isplitl [Hcb]; · iexact Hcb
    iexact Hab
  iintro ⟨HO, Hzb, Hf0, Hf1, Hf2⟩
  rw [wp_bind]
  iapply (run_part3 m c)
  isplitl [Hx3 Hx4 Hb3 Hz3 Hb0 Hb1 HO]
  · isplitl [Hx3]; · iexact Hx3
    isplitl [Hx4]; · iexact Hx4
    isplitl [Hb3 Hz3]
    · unfold bufIdle; isplitl [Hb3] <;> iassumption
    isplitl [Hb0]; · iexact Hb0
    isplitl [Hb1]; · iexact Hb1
    isplitl [HO]; · iexact HO
    iexact Hlev
  iintro ⟨Hb3, Hb0, Hb1, HO⟩
  rw [wp_bind]
  iapply (run_part4 m c)
  isplitl [Hx5 Hx6 Hb1 Hb2 Hb3 HO]
  · isplitl [Hx5]; · iexact Hx5
    isplitl [Hx6]; · iexact Hx6
    isplitl [Hb1]; · iexact Hb1
    isplitl [Hb2]; · iexact Hb2
    isplitl [Hb3]; · iexact Hb3
    isplitl [HO]; · iexact HO
    iexact Hlev
  iintro ⟨Hb1, Hb2, Hb3, HO⟩
  rw [wp_bind]
  iapply (run_part5 m c)
  isplitl [Hx7 Hb3 Hb0 Hb1 HO]
  · isplitl [Hx7]; · iexact Hx7
    isplitl [Hb3]; · iexact Hb3
    isplitl [Hb0]; · iexact Hb0
    isplitl [Hb1]; · iexact Hb1
    isplitl [HO]; · iexact HO
    iexact Hlev
  iintro ⟨Hb3, Hb0, Hb1, HO⟩
  rw [wp_bind]
  iapply (run_part6 m c)
  isplitl [Hb2 Hb3 Hs3 HO]
  · isplitl [Hb2]; · iexact Hb2
    isplitl [Hb3]; · iexact Hb3
    isplitl [Hs3]; · iexact Hs3
    isplitl [HO]; · iexact HO
    iexact Hlev
  iintro %v167 %v168 ⟨Hb2, Hb3, Hs, HO⟩
  ihave Hs := (show sumPts c 3 fullShare (k0_pay7 (sum5 (xOf m c)) (k0_pay5 (chunk (xOf m c) 5)) (chunk (xOf m c) 6) (chunk (xOf m c) 7)) ⊢ _ from sum_shares m c) $$ [Hs]
  · iexact Hs
  icases Hs with ⟨Hs, Hs0, Hs1, Hs2⟩
  rw [wp_bind]
  iapply (run_part7 m K c)
  isplitl [Hs0 Hf0 HO Hts0 Htr0]
  · isplitr; · iexact HR
    isplitl [Hs0]; · iexact Hs0
    isplitl [Hf0]; · iexact Hf0
    isplitl [HO]; · iexact HO
    isplitl [Hts0]; · iexact Hts0
    iexact Htr0
  iintro %v175 %v196 ⟨Hcs0, HO⟩
  rw [wp_bind]
  iapply (run_part8 m K c)
  isplitl [Hs1 Hs2 Hf1 Hf2 HO Hts1 Htr1 Hts2 Htr2]
  · isplitr; · iexact HR
    isplitl [Hs1]; · iexact Hs1
    isplitl [Hs2]; · iexact Hs2
    isplitl [Hf1]; · iexact Hf1
    isplitl [Hf2]; · iexact Hf2
    isplitl [HO]; · iexact HO
    isplitl [Hts1]; · iexact Hts1
    isplitl [Htr1]; · iexact Htr1
    isplitl [Hts2]; · iexact Hts2
    iexact Htr2
  iintro %v217 ⟨Hcs1, Hcs2, HO⟩
  rw [wp_bind]
  iapply (run_part9 m K c)
  isplitl [HO Hcs0 Has0 Hcr0 Har0 Hcs2 Has2]
  · isplitr; · iexact HR
    isplitl [HO]; · iexact HO
    isplitl [Hcs0]; · iexact Hcs0
    isplitl [Has0]; · iexact Has0
    isplitl [Hcr0]; · iexact Hcr0
    isplitl [Har0]; · iexact Har0
    isplitl [Hcs2]; · iexact Hcs2
    iexact Has2
  iintro ⟨HO, Hvs0, Hs0, Hvr0, Hp0, Hvs2, Hs2⟩
  rw [wp_bind]
  iapply (run_part10 m K c)
  isplitl [HO Hcr2 Har2 Hcs1 Has1 Hcr1 Har1 Hrow HW Hzo]
  · isplitr; · iexact HR
    isplitl [HO]; · iexact HO
    isplitl [Hcr2]; · iexact Hcr2
    isplitl [Har2]; · iexact Har2
    isplitl [Hcs1]; · iexact Hcs1
    isplitl [Has1]; · iexact Has1
    isplitl [Hcr1]; · iexact Hcr1
    isplitl [Har1]; · iexact Har1
    isplitl [Hrow]
    · icases Hrow with ⟨%w, Hrow⟩
      iexists w; unfold rowV; rw [View.set_whole]; iexact Hrow
    isplitl [HW]; · iexact HW
    iexact Hzo
  iintro ⟨HO, Hvr2, Hp2, Hvs1, Hs1, Hvr1, Hp1, ⟨%w, Hrow⟩, HW, Hzo⟩
  rw [Prog.pure_eq_ret, wp_ret]; imodintro
  iapply Hk
  isplitr [HO]
  · unfold heldAfter kept localSems xferSems
    unfold bufFull
    icases Hb0 with ⟨Hb0, Hz0⟩
    icases Hb1 with ⟨Hb1, Hz1⟩
    icases Hb2 with ⟨Hb2, Hz2⟩
    icases Hb3 with ⟨Hb3, Hz3⟩
    isplitl [Hx HW Hzb]
    · isplitl [Hx]; · iexact Hx
      isplitl [HW]; · iexact HW
      iexact Hzb
    isplitl [Hz0 Hz1 Hz2 Hz3 Hzo Hvs0 Hvs1 Hvs2 Hvr0 Hvr1 Hvr2]
    · isplitl [Hz0 Hz1 Hz2 Hz3 Hzo]
      · isplitl [Hz0]; · iexact Hz0
        isplitl [Hz1]; · iexact Hz1
        isplitl [Hz2]; · iexact Hz2
        isplitl [Hz3]; · iexact Hz3
        iexact Hzo
      isplitl [Hvs0 Hvs1 Hvs2]
      · isplitl [Hvs0]; · iexact Hvs0
        isplitl [Hvs1]; · iexact Hvs1
        iexact Hvs2
      isplitl [Hvr0]; · iexact Hvr0
      isplitl [Hvr1]; · iexact Hvr1
      iexact Hvr2
    isplitl [Hb0 Hb1 Hb2 Hb3]
    · iapply (buf_whole c)
      isplitl [Hb0]; · iapply (bufPts_free c 0 _) $$ Hb0
      isplitl [Hb1]; · iapply (bufPts_free c 1 _) $$ Hb1
      isplitl [Hb2]; · iapply (bufPts_free c 2 _) $$ Hb2
      iapply (bufPts_free c 3 _) $$ Hb3
    isplitl [Hp0 Hp1 Hp2 Hs Hs0 Hs1 Hs2]
    · iapply (sum_whole c)
      isplitl [Hp0]; · iapply (sumPts_free c 0 _) $$ Hp0
      isplitl [Hp1]; · iapply (sumPts_free c 1 _) $$ Hp1
      isplitl [Hp2]; · iapply (sumPts_free c 2 _) $$ Hp2
      iapply (sum_joined m c)
      isplitl [Hs]; · iexact Hs
      isplitl [Hs0]; · iexact Hs0
      isplitl [Hs1]; · iexact Hs1
      iexact Hs2
    iexists w; unfold rowV; rw [View.set_whole]; iexact Hrow
  iexact HO

end Cert.SumProof

end
-- ==== Proof.Run.lean ====
/-
  The whole run: for any float values, from any memory with the counters at zero, the program ends with `x` as it was, the result of
  every device at `resOf`, and every counter at zero.
-/
module

public import proofs.«01_k».proof.Proof.Dealing
public import Idealize.ShloMosaic.Lib.Pipeline.CollectiveSegs
public import proofs.«01_k».proof.Proof.Body

@[expose] public section

noncomputable section

namespace Cert.SumProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
  (ρ : Dev nD → PrngReg)

open Idealize.ShloMosaic.Pipeline (Dat Cfg Window BodyObligation cellOf)

/-- The one call of the kernel: what holds before its body and after, and what the device owes then. -/
def dats (_ : Fin 1) (c : Dev nD) : Dat τ (Elt F) Unit ℕ UU ℕ cfg0 c where
  A w := w.elim0
  after w _ := w.elim0
  Φ t := match t with
    | ⟨0, _⟩ => heldBefore m c
    | ⟨_ + 1, _⟩ => heldAfter m c
  q _ := fullShare
  owed t := match t with
    | ⟨0, _⟩ => O₀ c
    | ⟨_ + 1, _⟩ => 0

theorem body_obligation (c : Dev nD) : BodyObligation (dats (F := F) m 0 c) (defs₀ (F := F)) 𝒱₀ () Set.univ := fun t => by
  rw [fin_N0 t]
  show iprop(heldBefore m c ∗ (dats m 0 c).owesAt () (t0_0 : Fin cfg0.N).castSucc ∗ _) ⊢ wp frame (wpE (defs₀ (F := F)) 𝒱₀ (c : Thread nD τ) none) Set.univ
    (cc0_body (F := F) xM (Memref.isWhole_whole _) oM (Memref.isWhole_whole _) bM (Memref.isWhole_whole _) sM (Memref.isWhole_whole _)
      vM (Memref.isWhole_whole _) cc0_scratch3 cc0_scratch4 cc0_scratch5 cc0_scratch6)
    (fun _ => iprop(heldAfter m c ∗ (dats m 0 c).owesAt () (t0_0 : Fin cfg0.N).succ ∗ bigSep (Finset.univ : Finset (Fin 0)) _))
  rw [show (Finset.univ : Finset (Fin 0)) = ∅ from rfl, bigSep_empty]
  unfold Dat.owesAt Pipeline.owesWithin
  rw [show (dats m 0 c).owed (t0_0 : Fin cfg0.N).castSucc = O₀ c from rfl, show (dats m 0 c).owed (t0_0 : Fin cfg0.N).succ = 0 from rfl]
  iintro ⟨Hb, ⟨%W, -, HO⟩, -⟩
  iapply (run_body m c)
  isplitl [Hb HO]
  · isplitl [Hb]; · iexact Hb
    unfold owing; iexists W; iexact HO
  unfold owing
  iintro ⟨Ha, ⟨%W', HO⟩⟩
  isplitl [Ha]; · iexact Ha
  isplitl [HO]
  · iexists W'
    isplitr; · ipureintro; exact fun _ _ => Or.inl trivial
    iexact HO
  iempintro

/-! ## In and out -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ share m c)
      ⊢ |={Set.univ}=> iprop(startOf m c ∗ emp) := by
  rw [Pipeline.unscopedRestP_none, unscopedRest0_eq]
  iintro ⟨⟨Hx, Hw⟩, Hlev, Hcr, -, HG⟩
  ihave Hc := (creds_intro (F := F) c) $$ Hcr
  imodintro
  unfold startOf share
  isplitl
  · isplitl [HG]; · iexact HG
    isplitl [Hc]; · iexact Hc
    isplitl [Hlev]; · iexact Hlev
    isplitl [Hx]; · unfold xPts; iexact Hx
    iexists _; unfold rowO; rw [View.set_whole]; iexact Hw
  · iempintro

theorem held_in (c : Dev nD) :
    iprop(startOf m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = heldBefore m c from rfl, scopedRest0_eq]
  unfold heldBefore
  iintro ⟨Hs, -, Hr⟩
  isplitl [Hs]; · iexact Hs
  iexact Hr

theorem held_out (c : Dev nD) :
    (dats m 0 c).Φ (Fin.last cfg0.N) ⊢ iprop(kept m c ∗ ownSems c ∗ Pipeline.scopedRest cfg0.spec c) := by
  rw [show (dats m 0 c).Φ (Fin.last cfg0.N) = heldAfter m c from rfl, scopedRest0_eq]
  unfold heldAfter
  iintro ⟨Hk, Hs, Hr⟩
  isplitl [Hk]; · iexact Hk
  isplitl [Hs]; · iapply (ownSems_in c) $$ Hs
  iexact Hr

/-- What device `c`'s memory holds at the end. -/
def endsAt (c : Dev nD) (s : MemSt nD τ sig (Elt F)) : Prop :=
  s.mem ((c : Thread nD τ).loc main_arg0) = xOf m c ∧ s.mem ((c : Thread nD τ).loc main_v1) = resOf m c
    ∧ ∀ sm : SemLoc sig, sm.isScoped .tc = false → s.sem ((c.tc : Thread nD τ), sm) = 0

theorem read_end (c : Dev nD) (s' : Phys nD τ sig (Elt F)) :
    iprop(kept m c ∗ emp ∗ SI s') ⊢ |={Set.univ}=> (iprop(⌜endsAt m c s'.mem⌝ ∗ SI s') : sProp 𝕄) := by
  unfold kept xPts rowO
  rw [View.set_whole]
  iintro ⟨⟨Hx, Hw, Hb⟩, -, HSI⟩
  ihave H := (pointsTo_read_all {()} (fun _ => (c : Thread nD τ).loc main_arg0) (fun _ => xOf m c) s' (Transfers.shareDrop fullShare 8)) $$ [Hx HSI]
  · rw [bigSep_singleton]; isplitl [Hx] <;> iassumption
  icases H with ⟨%hx, HSI⟩
  ihave H := (pointsTo_read_all {()} (fun _ => (c : Thread nD τ).loc main_v1) (fun _ => resOf m c) s' fullShare) $$ [Hw HSI]
  · rw [bigSep_singleton]; isplitl [Hw] <;> iassumption
  icases H with ⟨%hw, HSI⟩
  imod (Pipeline.unscopedSems0_read (X := unscopedSems0 c) (c := c) fupd_intro s') $$ [Hb HSI] with ⟨%hs, HSI⟩
  · isplitl [Hb]; · rw [unscopedSems_eq]; iexact Hb
    iexact HSI
  imodintro
  isplitr
  · ipureintro; exact ⟨hx () (Finset.mem_singleton_self _), hw () (Finset.mem_singleton_self _), hs⟩
  iexact HSI

theorem waits (c : Dev nD) : (levAts L lv : sProp 𝕄) ⊢ Pipeline.cellsWaits cfgs (dats m) () 0 c :=
  Pipeline.cellsWaits_intro cfgs (dats m) () 0 c fun w s t => w.elim0

set_option maxRecDepth 8000 in
theorem run_main : θ_run defs (onTc (τ := τ) (main (F := F))) ⟨m, fun _ => 0, ρ⟩ (fun r =>
    (∀ c : Dev nD, r.2.mem ((c : Thread nD τ).loc main_arg0) = xOf m c ∧ r.2.mem ((c : Thread nD τ).loc main_v1) = resOf m c) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := dealt m) (G' := share m) (u₀ := u₀)
    (hu₀ := by
      unfold u₀
      iintro Hu
      ihave H := (ownU_split _ _) $$ Hu
      icases H with ⟨HP, HX⟩
      imod (fund_ring m) $$ HX with HG
      imodintro
      isplitl [HP] <;> iassumption)
    (hglob := glob m)
    (hA := fun _ w => w.elim0) (hpf := fun _ k => k.elim0)
    (X := startOf m) (Y := kept m) (Z := fun _ => iprop(emp))
    (hX := start_intro m ρ) (hin := held_in m) (hout := held_out m)
    (QY := endsAt m) (hY := read_end m)
    (hQ := fun _ h hs => ⟨fun c => ⟨(h c).2.2.1, (h c).2.2.2.1⟩, sem_eq_zero hs fun c => (h c).2.2.2.2⟩)

end Cert.SumProof

end
-- ==== Proof.BlockSum.lean ====
/-
  What one device adds up, over the extended reals: each step of the body adds the column sums of one part of the block, so the eight
  steps together give, in every column, the sum over the block's 4096 rows; and the last steps add the other devices' sums to it.
-/
module

public import proofs.«01_k».proof.Proof.Protocol
public import Idealize.ShloMosaic.Lib.Pointwise

@[expose] public section

noncomputable section

namespace Cert.SumProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-- Column `b` of a part of 512 rows, added up. -/
def partCol (v : Vec Ideal S1x512x1024 .f32) (b : Fin 1024) : EReal := ∑ a : Fin 512, v (ix3 0 a b)

theorem pay1_at (v : Vec Ideal S1x512x1024 .f32) (b : Fin 1024) : k0_pay1 v (ix2 0 b) = partCol v b := by
  pointwise [k0_pay1, partCol]

theorem pay3_at (s : FVec Ideal S1x1024 .f32) (v w : Vec Ideal S1x512x1024 .f32) (b : Fin 1024) :
    k0_pay3 s (k0_pay2 v) w (ix2 0 b) = s (ix2 0 b) + partCol v b + partCol w b := by
  pointwise [k0_pay3, k0_pay2, partCol]

theorem pay4_at (s : FVec Ideal S1x1024 .f32) (v w : Vec Ideal S1x512x1024 .f32) (b : Fin 1024) :
    k0_pay4 s v w (ix2 0 b) = s (ix2 0 b) + partCol v b + partCol w b := by
  pointwise [k0_pay4, partCol]

theorem pay6_at (s : FVec Ideal S1x1024 .f32) (u v w : Vec Ideal S1x512x1024 .f32) (b : Fin 1024) :
    k0_pay6 s (k0_pay5 u) v w (ix2 0 b) = s (ix2 0 b) + partCol u b + partCol v b + partCol w b := by
  pointwise [k0_pay6, k0_pay5, partCol]

theorem pay8_at (s : FVec Ideal S1x1024 .f32) (v : Vec Ideal S1x1x1024 .f32) (b : Fin 1024) :
    k0_pay8 s v (ix2 0 b) = s (ix2 0 b) + v (ix3 0 0 b) := by
  pointwise [k0_pay8]

theorem pay9_at (s : FVec Ideal S1x1024 .f32) (v w : Vec Ideal S1x1x1024 .f32) (b : Fin 1024) :
    k0_pay9 s v w (ix2 0 b) = s (ix2 0 b) + v (ix3 0 0 b) + w (ix3 0 0 b) := by
  pointwise [k0_pay9]

/-- What a device sends is its own sum, with one more axis of size 1. -/
theorem part_at (x : S4096x1024.Idx → EReal) (b : Fin 1024) : part (F := Ideal) x (ix3 0 0 b) = sum8 (F := Ideal) x (ix2 0 b) := by
  show k0_pay7 (F := Ideal) _ _ _ _ (ix3 0 0 b) = k0_pay6 (F := Ideal) _ _ _ _ (ix2 0 b)
  generalize hk : k0_pay6 (F := Ideal) (sum5 x) (k0_pay5 (chunk x 5)) (chunk x 6) (chunk x 7) = k
  unfold k0_pay7
  rw [hk]
  pointwise []

theorem chunk_col (x : S4096x1024.Idx → EReal) (j : Fin 8) (b : Fin 1024) :
    partCol (chunk (F := Ideal) x j) b = ∑ a : Fin 512, x (ix2 (rowIx j a) b) := by
  unfold partCol chunk
  refine Finset.sum_congr rfl fun a _ => congrArg x ?_
  funext d
  match d with
  | ⟨0, _⟩ => rfl
  | ⟨1, _⟩ => rfl

/-- The sum of a device's block, column by column. -/
theorem sum8_at (x : S4096x1024.Idx → EReal) (b : Fin 1024) :
    sum8 (F := Ideal) x (ix2 0 b) = ∑ j : Fin 8, ∑ a : Fin 512, x (ix2 (rowIx j a) b) := by
  unfold sum8 sum5
  rw [pay6_at, pay4_at, pay3_at, pay1_at]
  simp only [chunk_col]
  rw [Fin.sum_univ_eight]

variable (m : (ℓ : Loc nD τ sig) → Buf (Elt Ideal) ℓ)

/-- The result of device `c`: its own sum and the other three, in the order in which the body takes them. -/
theorem resOf_at (c : Dev nD) (b : Fin 1024) :
    resOf m c (ix2 0 b) = sum8 (F := Ideal) (xOf m c) (ix2 0 b) + sum8 (F := Ideal) (xOf m (fwd 2 c)) (ix2 0 b)
      + sum8 (F := Ideal) (xOf m (fwd 0 c)) (ix2 0 b) + sum8 (F := Ideal) (xOf m (fwd 1 c)) (ix2 0 b) := by
  unfold resOf
  rw [pay9_at, pay8_at, part_at, part_at, part_at]

/-- Every device's result is the sum of the four. -/
theorem resOf_all (c : Dev nD) (b : Fin 1024) : resOf m c (ix2 0 b) = ∑ d : Dev nD, sum8 (F := Ideal) (xOf m d) (ix2 0 b) := by
  rw [resOf_at]
  generalize hg : (fun d : Dev nD => sum8 (F := Ideal) (xOf m d) (ix2 0 b)) = g
  have e : ∀ d, sum8 (F := Ideal) (xOf m d) (ix2 0 b) = g d := fun d => congrFun hg d
  simp only [e]
  show _ = ∑ d : Fin 4, g d
  rw [Fin.sum_univ_four]
  have key : ∀ g : Fin 4 → EReal, ∀ c : Fin 4, g c + g (fwd 2 c) + g (fwd 0 c) + g (fwd 1 c) = g 0 + g 1 + g 2 + g 3 := by
    intro g c
    have h0 : ∀ p q r s : EReal, p + s + q + r = p + q + r + s := fun p q r s => by ac_rfl
    have h1 : ∀ p q r s : EReal, q + p + r + s = p + q + r + s := fun p q r s => by ac_rfl
    have h2 : ∀ p q r s : EReal, r + q + s + p = p + q + r + s := fun p q r s => by ac_rfl
    have h3 : ∀ p q r s : EReal, s + r + p + q = p + q + r + s := fun p q r s => by ac_rfl
    match c with
    | 0 => exact h0 (g 0) (g 1) (g 2) (g 3)
    | 1 => exact h1 (g 0) (g 1) (g 2) (g 3)
    | 2 => exact h2 (g 0) (g 1) (g 2) (g 3)
    | 3 => exact h3 (g 0) (g 1) (g 2) (g 3)
  exact key g c

end Cert.SumProof

end
-- ==== Proof.RowSum.lean ====
/-
  What the reference computes, in every column the sum over all 16384 rows; and that this is the sum over the devices, their parts and
  the rows of a part.
-/
module

public import proofs.«01_k».proof.Proof.Gen.ReferenceIdeal.Run
public import Idealize.ShloMosaic.Lib.Pointwise

@[expose] public section

noncomputable section

namespace Cert.RowSum

open Cert.ReferenceIdeal Cert.ReferenceIdeal.Gen
open Idealize.ShloMosaic Idealize.ShloMosaic.TcCoe Idealize.SL.Sem

/-- The reference's result from the whole array. -/
def refOut (x : S16384x1024.Idx → EReal) : FVec Ideal S1x1024 .f32 :=
  broadcastInDim S1x1024 ![1] bcast_S1024_S1x1024_1
    (Host.reduceAdd (F := Ideal) (φ := .f32) x (constant S_ .f32 0x00000000#32) reducesTo_S16384x1024_S1024_d0 h_S_)

theorem refOut_at (x : S16384x1024.Idx → EReal) (b : Fin 1024) : refOut x (ix2 0 b) = ∑ r : Fin 16384, x (ix2 r b) := by
  pointwise [refOut]

/-- Row `a` of part `j` of device `d`, in the whole array. -/
def rowAt (d : Fin 4) (j : Fin 8) (a : Fin 512) : Fin 16384 := ⟨d.val * 4096 + (512 * j.val + a.val), by omega⟩

/-- The rows, named by device, part and row of the part. -/
def rowEquiv : Fin 4 × Fin 8 × Fin 512 ≃ Fin 16384 where
  toFun p := rowAt p.1 p.2.1 p.2.2
  invFun r := (⟨r.val / 4096, by omega⟩, ⟨r.val % 4096 / 512, by omega⟩, ⟨r.val % 512, by omega⟩)
  left_inv := fun ⟨d, j, a⟩ => by
    simp only [rowAt, Prod.mk.injEq, Fin.ext_iff]
    omega
  right_inv r := by
    simp only [rowAt, Fin.ext_iff]
    omega

theorem sum_rows (g : Fin 16384 → EReal) : ∑ d : Fin 4, ∑ j : Fin 8, ∑ a : Fin 512, g (rowAt d j a) = ∑ r : Fin 16384, g r := by
  rw [← Equiv.sum_comp rowEquiv g, Fintype.sum_prod_type]
  exact Finset.sum_congr rfl fun d _ => (Fintype.sum_prod_type fun p : Fin 8 × Fin 512 => g (rowEquiv (d, p))).symm

end Cert.RowSum

end
-- ==== Proof.Equation.lean ====
/-
  The equation: where the four devices hold the four blocks of one array, the result of each is the reference's result from that array.
-/
module

public import proofs.«01_k».proof.Proof.BlockSum
public import proofs.«01_k».proof.Proof.RowSum
public import Idealize.ShloMosaic.Lib.Layout

@[expose] public section

noncomputable section

namespace Cert.SumProof

open Cert.KernelIdeal Cert.RowSum
open Idealize.ShloMosaic Idealize.ShloMosaic.TcCoe Idealize.SL.Sem

/-- Row `a` of part `j` of block `d` is its row of the whole array. -/
theorem block_row (x : (⟨2, ![16384, 1024]⟩ : Shape).Idx → EReal) (d : Fin 4) (j : Fin 8) (a : Fin 512) (b : Fin 1024) :
    Layout.block ⟨2, ![4096, 1024]⟩ ⟨2, ![16384, 1024]⟩ 0 4 d x (by decide) (ix2 (rowIx j a) b) = x (ix2 (rowAt d j a) b) := by
  rw [Layout.block_apply]
  refine congrArg x ?_
  funext e
  match e with
  | ⟨0, _⟩ => rfl
  | ⟨1, _⟩ => rfl

theorem resOf_eq (m : (ℓ : Loc nD τ sig) → Buf (Elt Ideal) ℓ) (x : (⟨2, ![16384, 1024]⟩ : Shape).Idx → EReal)
    (h : ∀ c : Dev nD, xOf m c = Layout.block ⟨2, ![4096, 1024]⟩ ⟨2, ![16384, 1024]⟩ 0 4 c x (by decide)) (c : Dev nD) :
    (resOf m c : (⟨2, ![1, 1024]⟩ : Shape).Idx → EReal) = refOut x := by
  have at0 : ∀ b : Fin 1024, resOf m c (ix2 0 b) = refOut x (ix2 0 b) := fun b => by
    rw [resOf_all, refOut_at, ← sum_rows fun r => x (ix2 r b)]
    refine Finset.sum_congr rfl fun d _ => ?_
    rw [sum8_at, h d]
    exact Finset.sum_congr rfl fun j _ => Finset.sum_congr rfl fun a _ => block_row x d j a b
  funext i
  have e : i = ix2 (0 : Fin 1) (i 1) := by
    funext e
    match e with
    | ⟨0, _⟩ => exact Subsingleton.elim (α := Fin 1) _ _
    | ⟨1, _⟩ => rfl
  rw [e]
  exact at0 (i 1)

end Cert.SumProof

end
-- ==== Proof.lean ====
/-
  The five claims. The kernel's run is proved once, for any float values (Proof/Run.lean), and read twice: at the bit patterns for the
  kernel's frame, at the extended reals for the idealized kernel's frame and for its value.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Equation

@[expose] public section

noncomputable section

namespace Cert.Proof

open Idealize.ShloMosaic Idealize.ShloMosaic.TcCoe Idealize.SL.Sem Cert.SumProof

/-- Every run of the kernel ends, with its argument unchanged and every counter at zero. -/
theorem frame_kernel : Cert.quiescent_Kernel := fun m ρ _ =>
  (θ_run Cert.KernelIdeal.defs _ _).mono (fun _ h => ⟨fun c => (h.1 c).1, h.2⟩) (run_main (F := Bits) m ρ)

/-- The same over the extended reals. -/
theorem frame_kernelIdeal : Cert.quiescent_KernelIdeal := fun m ρ _ =>
  (θ_run Cert.KernelIdeal.defs _ _).mono (fun _ h => ⟨fun c => (h.1 c).1, h.2⟩) (run_main (F := Ideal) m ρ)

/-- The reference has no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every device of the kernel ends with the reference's result. -/
theorem value : Cert.algebraic_KernelIdeal_ReferenceIdeal := by
  intro m ρ m' ρ' _ hx
  refine ⟨Cert.RowSum.refOut (m' (((0 : Dev Cert.ReferenceIdeal.nD).tc : Thread Cert.ReferenceIdeal.nD Cert.ReferenceIdeal.τ).loc Cert.ReferenceIdeal.main_arg0)), ?_, ?_⟩
  · refine (θ_run Cert.KernelIdeal.defs _ _).mono (fun _ h c => ⟨?_, (h.1 c).1⟩) (run_main (F := Ideal) m ρ)
    exact (h.1 c).2.trans (resOf_eq m _ hx c)
  · exact (θ_run Cert.ReferenceIdeal.defs _ _).mono (fun _ h => h 0) (Cert.ReferenceIdeal.Value.run (F := Ideal) m' ρ')

theorem claim : Cert.Claim :=
  ⟨Cert.Kernel.Gen.facts, Cert.KernelIdeal.Gen.facts, Cert.ReferenceIdeal.Gen.facts,
    frame_kernel, frame_kernelIdeal, frame_reference, trivial, value⟩

end Cert.Proof

end
